-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "ninth" .f32 0x3DE38E39#32 ((1 / 9 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v194) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3x64x64 : Shape := ⟨4, ![1, 3, 64, 64]⟩
abbrev S3 : Shape := ⟨1, ![3]⟩
abbrev S2 : Shape := ⟨1, ![2]⟩
abbrev S4x3x4x4 : Shape := ⟨4, ![4, 3, 4, 4]⟩
abbrev S4 : Shape := ⟨1, ![4]⟩
abbrev S2x256 : Shape := ⟨2, ![2, 256]⟩
abbrev S192x64 : Shape := ⟨2, ![192, 64]⟩
abbrev S32x8 : Shape := ⟨2, ![32, 8]⟩
abbrev S64x72 : Shape := ⟨2, ![64, 72]⟩
abbrev S1x64 : Shape := ⟨2, ![1, 64]⟩
abbrev S8x64 : Shape := ⟨2, ![8, 64]⟩
abbrev S7x64 : Shape := ⟨2, ![7, 64]⟩
abbrev S8x72 : Shape := ⟨2, ![8, 72]⟩
abbrev S8x8 : Shape := ⟨2, ![8, 8]⟩
abbrev S1x1x1x1 : Shape := ⟨4, ![1, 1, 1, 1]⟩
abbrev S1 : Shape := ⟨1, ![1]⟩
abbrev S256x1 : Shape := ⟨2, ![256, 1]⟩
abbrev S19x2 : Shape := ⟨2, ![19, 2]⟩
abbrev S2x1 : Shape := ⟨2, ![2, 1]⟩
abbrev S1x1 : Shape := ⟨2, ![1, 1]⟩
abbrev S2x2 : Shape := ⟨2, ![2, 2]⟩

abbrev nBuf : Space → Nat
  | .hbm => 13
  | .vmem => 5
  | .smem => 7
  | _ => 0

abbrev bufTy : (tb : Table) → Fin (tcTables nBuf tb) → BufTy
  | .hbm, ⟨0, _⟩ => ⟨S1x3x64x64, .f32⟩
  | .hbm, ⟨1, _⟩ => ⟨S3, .f32⟩
  | .hbm, ⟨2, _⟩ => ⟨S2, .f32⟩
  | .hbm, ⟨3, _⟩ => ⟨S2, .f32⟩
  | .hbm, ⟨4, _⟩ => ⟨S4x3x4x4, .f32⟩
  | .hbm, ⟨5, _⟩ => ⟨S4, .f32⟩
  | .hbm, ⟨6, _⟩ => ⟨S2x256, .f32⟩
  | .hbm, ⟨7, _⟩ => ⟨S2, .f32⟩
  | .hbm, ⟨8, _⟩ => ⟨S192x64, .f32⟩
  | .hbm, ⟨9, _⟩ => ⟨S32x8, .f32⟩
  | .hbm, ⟨10, _⟩ => ⟨S256x1, .f32⟩
  | .hbm, ⟨11, _⟩ => ⟨S19x2, .f32⟩
  | .hbm, ⟨12, _⟩ => ⟨S3, .f32⟩
  | .local _ .vmem, ⟨0, _⟩ => ⟨S192x64, .f32⟩
  | .local _ .vmem, ⟨1, _⟩ => ⟨S32x8, .f32⟩
  | .local _ .vmem, ⟨2, _⟩ => ⟨S2x256, .f32⟩
  | .local _ .vmem, ⟨3, _⟩ => ⟨S256x1, .f32⟩
  | .local _ .vmem, ⟨4, _⟩ => ⟨S19x2, .f32⟩
  | .local _ .smem, ⟨0, _⟩ => ⟨S4x3x4x4, .f32⟩
  | .local _ .smem, ⟨1, _⟩ => ⟨S4, .f32⟩
  | .local _ .smem, ⟨2, _⟩ => ⟨S2, .f32⟩
  | .local _ .smem, ⟨3, _⟩ => ⟨S3, .f32⟩
  | .local _ .smem, ⟨4, _⟩ => ⟨S2, .f32⟩
  | .local _ .smem, ⟨5, _⟩ => ⟨S2, .f32⟩
  | .local _ .smem, ⟨6, _⟩ => ⟨S3, .f32⟩
  | _, _ => ⟨S1x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg3_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg6_0 : Ref sig .tc := ⟨.vmem, 4, rfl⟩
abbrev cc0_stg1_0 : Ref sig .tc := ⟨.smem, 0, rfl⟩
abbrev cc0_stg2_0 : Ref sig .tc := ⟨.smem, 1, rfl⟩
abbrev cc1_stg2_0 : Ref sig .tc := ⟨.smem, 2, rfl⟩
abbrev cc1_stg3_0 : Ref sig .tc := ⟨.smem, 3, rfl⟩
abbrev cc1_stg4_0 : Ref sig .tc := ⟨.smem, 4, rfl⟩
abbrev cc1_stg5_0 : Ref sig .tc := ⟨.smem, 5, rfl⟩
abbrev cc1_stg7_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11

abbrev nD : Nat := 1
abbrev τ : Topo := Topo.v7x

variable {F : FTy → Type} [FloatOps F]

abbrev grid0 : Pipeline.Grid := .none

abbrev stage0_0 : Fin 1 → Memref sig .tc .vmem S192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4x3x4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S2x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .smem S3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .smem S2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S19x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .smem S3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== KernelIdeal.lean ====
variable {F : FTy → Type} [FloatOps F] [Named F]
def κ : String → Option EReal := fun
  | "ninth" => some ((1 / 9 : ℝ) : EReal)
  | _ => none
-- ==== ReferenceIdeal.lean ====
abbrev S1x3x64x64 : Shape := ⟨4, ![1, 3, 64, 64]⟩
abbrev S3 : Shape := ⟨1, ![3]⟩
abbrev S2 : Shape := ⟨1, ![2]⟩
abbrev S4x3x4x4 : Shape := ⟨4, ![4, 3, 4, 4]⟩
abbrev S4 : Shape := ⟨1, ![4]⟩
abbrev S2x256 : Shape := ⟨2, ![2, 256]⟩
abbrev S_ : Shape := ⟨0, ![]⟩
abbrev S1x3x66x66 : Shape := ⟨4, ![1, 3, 66, 66]⟩
abbrev S1x4x16x16 : Shape := ⟨4, ![1, 4, 16, 16]⟩
abbrev S1x3x16x16 : Shape := ⟨4, ![1, 3, 16, 16]⟩
abbrev S4x3x1x1 : Shape := ⟨4, ![4, 3, 1, 1]⟩
abbrev S4x3 : Shape := ⟨2, ![4, 3]⟩
abbrev S1x16x16x4 : Shape := ⟨4, ![1, 16, 16, 4]⟩
abbrev S1x4x1x1 : Shape := ⟨4, ![1, 4, 1, 1]⟩
abbrev S1x4x8x2x8x2 : Shape := ⟨6, ![1, 4, 8, 2, 8, 2]⟩
abbrev S1x4x8x8 : Shape := ⟨4, ![1, 4, 8, 8]⟩
abbrev S1x256 : Shape := ⟨2, ![1, 256]⟩
abbrev S256x2 : Shape := ⟨2, ![256, 2]⟩
abbrev S1x2 : Shape := ⟨2, ![1, 2]⟩
abbrev S1 : Shape := ⟨1, ![1]⟩
abbrev S2x2 : Shape := ⟨2, ![2, 2]⟩
abbrev S9 : Shape := ⟨1, ![9]⟩
abbrev S10 : Shape := ⟨1, ![10]⟩
abbrev S10x1 : Shape := ⟨2, ![10, 1]⟩
abbrev S10x2 : Shape := ⟨2, ![10, 2]⟩
abbrev S9x2 : Shape := ⟨2, ![9, 2]⟩
abbrev S19x2 : Shape := ⟨2, ![19, 2]⟩

abbrev nBuf : Space → Nat
  | .hbm => 316
  | .vmem => 0
  | .smem => 0
  | _ => 0

abbrev hbmTy0_0 (i : Nat) : BufTy := match i % 128 with
  | 0 => ⟨S1x3x64x64, .f32⟩
  | 1 => ⟨S3, .f32⟩
  | 2 => ⟨S2, .f32⟩
  | 3 => ⟨S2, .f32⟩
  | 4 => ⟨S4x3x4x4, .f32⟩
  | 5 => ⟨S4, .f32⟩
  | 6 => ⟨S2x256, .f32⟩
  | 7 => ⟨S2, .f32⟩
  | 8 => ⟨S_, .i32⟩
  | 9 => ⟨S_, .f32⟩
  | 10 => ⟨S1x3x66x66, .f32⟩
  | 11 => ⟨S_, .f32⟩
  | 12 => ⟨S1x4x16x16, .f32⟩
  | 13 => ⟨S1x3x16x16, .f32⟩
  | 14 => ⟨S4x3x1x1, .f32⟩
  | 15 => ⟨S4x3, .f32⟩
  | 16 => ⟨S1x16x16x4, .f32⟩
  | 17 => ⟨S1x4x16x16, .f32⟩
  | 18 => ⟨S1x4x16x16, .f32⟩
  | 19 => ⟨S1x3x16x16, .f32⟩
  | 20 => ⟨S4x3x1x1, .f32⟩
  | 21 => ⟨S4x3, .f32⟩
  | 22 => ⟨S1x16x16x4, .f32⟩
  | 23 => ⟨S1x4x16x16, .f32⟩
  | 24 => ⟨S1x4x16x16, .f32⟩
  | 25 => ⟨S1x3x16x16, .f32⟩
  | 26 => ⟨S4x3x1x1, .f32⟩
  | 27 => ⟨S4x3, .f32⟩
  | 28 => ⟨S1x16x16x4, .f32⟩
  | 29 => ⟨S1x4x16x16, .f32⟩
  | 30 => ⟨S1x4x16x16, .f32⟩
  | 31 => ⟨S1x3x16x16, .f32⟩
  | 32 => ⟨S4x3x1x1, .f32⟩
  | 33 => ⟨S4x3, .f32⟩
  | 34 => ⟨S1x16x16x4, .f32⟩
  | 35 => ⟨S1x4x16x16, .f32⟩
  | 36 => ⟨S1x4x16x16, .f32⟩
  | 37 => ⟨S1x3x16x16, .f32⟩
  | 38 => ⟨S4x3x1x1, .f32⟩
  | 39 => ⟨S4x3, .f32⟩
  | 40 => ⟨S1x16x16x4, .f32⟩
  | 41 => ⟨S1x4x16x16, .f32⟩
  | 42 => ⟨S1x4x16x16, .f32⟩
  | 43 => ⟨S1x3x16x16, .f32⟩
  | 44 => ⟨S4x3x1x1, .f32⟩
  | 45 => ⟨S4x3, .f32⟩
  | 46 => ⟨S1x16x16x4, .f32⟩
  | 47 => ⟨S1x4x16x16, .f32⟩
  | 48 => ⟨S1x4x16x16, .f32⟩
  | 49 => ⟨S1x3x16x16, .f32⟩
  | 50 => ⟨S4x3x1x1, .f32⟩
  | 51 => ⟨S4x3, .f32⟩
  | 52 => ⟨S1x16x16x4, .f32⟩
  | 53 => ⟨S1x4x16x16, .f32⟩
  | 54 => ⟨S1x4x16x16, .f32⟩
  | 55 => ⟨S1x3x16x16, .f32⟩
  | 56 => ⟨S4x3x1x1, .f32⟩
  | 57 => ⟨S4x3, .f32⟩
  | 58 => ⟨S1x16x16x4, .f32⟩
  | 59 => ⟨S1x4x16x16, .f32⟩
  | 60 => ⟨S1x4x16x16, .f32⟩
  | 61 => ⟨S1x3x16x16, .f32⟩
  | 62 => ⟨S4x3x1x1, .f32⟩
  | 63 => ⟨S4x3, .f32⟩
  | 64 => ⟨S1x16x16x4, .f32⟩
  | 65 => ⟨S1x4x16x16, .f32⟩
  | 66 => ⟨S1x4x16x16, .f32⟩
  | 67 => ⟨S1x3x16x16, .f32⟩
  | 68 => ⟨S4x3x1x1, .f32⟩
  | 69 => ⟨S4x3, .f32⟩
  | 70 => ⟨S1x16x16x4, .f32⟩
  | 71 => ⟨S1x4x16x16, .f32⟩
  | 72 => ⟨S1x4x16x16, .f32⟩
  | 73 => ⟨S1x3x16x16, .f32⟩
  | 74 => ⟨S4x3x1x1, .f32⟩
  | 75 => ⟨S4x3, .f32⟩
  | 76 => ⟨S1x16x16x4, .f32⟩
  | 77 => ⟨S1x4x16x16, .f32⟩
  | 78 => ⟨S1x4x16x16, .f32⟩
  | 79 => ⟨S1x3x16x16, .f32⟩
  | 80 => ⟨S4x3x1x1, .f32⟩
  | 81 => ⟨S4x3, .f32⟩
  | 82 => ⟨S1x16x16x4, .f32⟩
  | 83 => ⟨S1x4x16x16, .f32⟩
  | 84 => ⟨S1x4x16x16, .f32⟩
  | 85 => ⟨S1x3x16x16, .f32⟩
  | 86 => ⟨S4x3x1x1, .f32⟩
  | 87 => ⟨S4x3, .f32⟩
  | 88 => ⟨S1x16x16x4, .f32⟩
  | 89 => ⟨S1x4x16x16, .f32⟩
  | 90 => ⟨S1x4x16x16, .f32⟩
  | 91 => ⟨S1x3x16x16, .f32⟩
  | 92 => ⟨S4x3x1x1, .f32⟩
  | 93 => ⟨S4x3, .f32⟩
  | 94 => ⟨S1x16x16x4, .f32⟩
  | 95 => ⟨S1x4x16x16, .f32⟩
  | 96 => ⟨S1x4x16x16, .f32⟩
  | 97 => ⟨S1x3x16x16, .f32⟩
  | 98 => ⟨S4x3x1x1, .f32⟩
  | 99 => ⟨S4x3, .f32⟩
  | 100 => ⟨S1x16x16x4, .f32⟩
  | 101 => ⟨S1x4x16x16, .f32⟩
  | 102 => ⟨S1x4x16x16, .f32⟩
  | 103 => ⟨S1x3x16x16, .f32⟩
  | 104 => ⟨S4x3x1x1, .f32⟩
  | 105 => ⟨S4x3, .f32⟩
  | 106 => ⟨S1x16x16x4, .f32⟩
  | 107 => ⟨S1x4x16x16, .f32⟩
  | 108 => ⟨S1x4x16x16, .f32⟩
  | 109 => ⟨S1x4x1x1, .f32⟩
  | 110 => ⟨S1x4x16x16, .f32⟩
  | 111 => ⟨S1x4x16x16, .f32⟩
  | 112 => ⟨S_, .f32⟩
  | 113 => ⟨S1x4x16x16, .f32⟩
  | 114 => ⟨S1x4x16x16, .f32⟩
  | 115 => ⟨S1x4x8x2x8x2, .f32⟩
  | 116 => ⟨S_, .f32⟩
  | 117 => ⟨S1x4x8x8, .f32⟩
  | 118 => ⟨S1x256, .f32⟩
  | 119 => ⟨S256x2, .f32⟩
  | 120 => ⟨S1x2, .f32⟩
  | 121 => ⟨S1x2, .f32⟩
  | 122 => ⟨S1x2, .f32⟩
  | 123 => ⟨S2, .f32⟩
  | 124 => ⟨S_, .i32⟩
  | 125 => ⟨S2, .f32⟩
  | 126 => ⟨S_, .i32⟩
  | 127 => ⟨S2, .f32⟩
  | _ => ⟨S1x3x64x64, .f32⟩

abbrev hbmTy0_1 (i : Nat) : BufTy := match i % 128 with
  | 0 => ⟨S_, .i32⟩
  | 1 => ⟨S_, .i1⟩
  | 2 => ⟨S1, .f32⟩
  | 3 => ⟨S_, .f32⟩
  | 4 => ⟨S1, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S1, .f32⟩
  | 23 => ⟨S1, .f32⟩
  | 24 => ⟨S2, .f32⟩
  | 25 => ⟨S2, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S1, .f32⟩
  | 49 => ⟨S1, .f32⟩
  | 50 => ⟨S2, .f32⟩
  | 51 => ⟨S_, .f32⟩
  | 52 => ⟨S1, .f32⟩
  | 53 => ⟨S1, .f32⟩
  | 54 => ⟨S2, .f32⟩
  | 55 => ⟨S1x2, .f32⟩
  | 56 => ⟨S1x2, .f32⟩
  | 57 => ⟨S2x2, .f32⟩
  | 58 => ⟨S2x2, .f32⟩
  | 59 => ⟨S2x2, .f32⟩
  | 60 => ⟨S2, .f32⟩
  | 61 => ⟨S_, .f32⟩
  | 62 => ⟨S2, .f32⟩
  | 63 => ⟨S2, .f32⟩
  | 64 => ⟨S2, .f32⟩
  | 65 => ⟨S_, .i32⟩
  | 66 => ⟨S_, .i32⟩
  | 67 => ⟨S1, .f32⟩
  | 68 => ⟨S_, .f32⟩
  | 69 => ⟨S1, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S1, .f32⟩
  | 88 => ⟨S1, .f32⟩
  | 89 => ⟨S2, .f32⟩
  | 90 => ⟨S_, .f32⟩
  | 91 => ⟨S_, .f32⟩
  | 92 => ⟨S1, .f32⟩
  | 93 => ⟨S1, .f32⟩
  | 94 => ⟨S2, .f32⟩
  | 95 => ⟨S_, .f32⟩
  | 96 => ⟨S_, .f32⟩
  | 97 => ⟨S1, .f32⟩
  | 98 => ⟨S1, .f32⟩
  | 99 => ⟨S2, .f32⟩
  | 100 => ⟨S2, .f32⟩
  | 101 => ⟨S2, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S9, .f32⟩
  | 110 => ⟨S_, .f32⟩
  | 111 => ⟨S9, .f32⟩
  | 112 => ⟨S9, .f32⟩
  | 113 => ⟨S1, .f32⟩
  | 114 => ⟨S_, .f32⟩
  | 115 => ⟨S9, .f32⟩
  | 116 => ⟨S9, .f32⟩
  | 117 => ⟨S9, .f32⟩
  | 118 => ⟨S9, .f32⟩
  | 119 => ⟨S1, .f32⟩
  | 120 => ⟨S9, .f32⟩
  | 121 => ⟨S9, .f32⟩
  | 122 => ⟨S9, .f32⟩
  | 123 => ⟨S1, .f32⟩
  | 124 => ⟨S10, .f32⟩
  | 125 => ⟨S10x1, .f32⟩
  | 126 => ⟨S_, .f32⟩
  | 127 => ⟨S10x1, .f32⟩
  | _ => ⟨S1x3x64x64, .f32⟩

abbrev hbmTy0_2 (i : Nat) : BufTy := match i % 128 with
  | 0 => ⟨S10x1, .f32⟩
  | 1 => ⟨S1x2, .f32⟩
  | 2 => ⟨S10x2, .f32⟩
  | 3 => ⟨S10x2, .f32⟩
  | 4 => ⟨S10x2, .f32⟩
  | 5 => ⟨S1x2, .f32⟩
  | 6 => ⟨S10x2, .f32⟩
  | 7 => ⟨S10x2, .f32⟩
  | 8 => ⟨S10x2, .f32⟩
  | 9 => ⟨S10x2, .f32⟩
  | 10 => ⟨S_, .f32⟩
  | 11 => ⟨S10x1, .f32⟩
  | 12 => ⟨S10x1, .f32⟩
  | 13 => ⟨S1x2, .f32⟩
  | 14 => ⟨S10x2, .f32⟩
  | 15 => ⟨S10x2, .f32⟩
  | 16 => ⟨S10x2, .f32⟩
  | 17 => ⟨S1x2, .f32⟩
  | 18 => ⟨S10x2, .f32⟩
  | 19 => ⟨S10x2, .f32⟩
  | 20 => ⟨S10x2, .f32⟩
  | 21 => ⟨S10x2, .f32⟩
  | 22 => ⟨S9x2, .f32⟩
  | 23 => ⟨S19x2, .f32⟩
  | 24 => ⟨S1, .f32⟩
  | 25 => ⟨S_, .f32⟩
  | 26 => ⟨S_, .f32⟩
  | 27 => ⟨S_, .f32⟩
  | 28 => ⟨S1, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S1, .f32⟩
  | 39 => ⟨S_, .f32⟩
  | 40 => ⟨S_, .f32⟩
  | 41 => ⟨S_, .f32⟩
  | 42 => ⟨S_, .f32⟩
  | 43 => ⟨S1, .f32⟩
  | 44 => ⟨S_, .f32⟩
  | 45 => ⟨S_, .f32⟩
  | 46 => ⟨S_, .f32⟩
  | 47 => ⟨S_, .f32⟩
  | 48 => ⟨S1, .f32⟩
  | 49 => ⟨S_, .f32⟩
  | 50 => ⟨S_, .f32⟩
  | 51 => ⟨S_, .f32⟩
  | 52 => ⟨S_, .f32⟩
  | 53 => ⟨S1, .f32⟩
  | 54 => ⟨S_, .f32⟩
  | 55 => ⟨S_, .f32⟩
  | 56 => ⟨S1, .f32⟩
  | 57 => ⟨S1, .f32⟩
  | 58 => ⟨S1, .f32⟩
  | 59 => ⟨S3, .f32⟩
  | _ => ⟨S1x3x64x64, .f32⟩

abbrev hbmTy (i : Nat) : BufTy := match i / 128 with
  | 0 => hbmTy0_0 i
  | 1 => hbmTy0_1 i
  | 2 => hbmTy0_2 i
  | _ => ⟨S1x3x64x64, .f32⟩

abbrev bufTy : (tb : Table) → Fin (tcTables nBuf tb) → BufTy
  | .hbm, ⟨i, _⟩ => hbmTy i
  | _, _ => ⟨S1x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_call1_cst : Ref sig .tc := ⟨.hbm, 112, rfl⟩
abbrev main_call1_v0 : Ref sig .tc := ⟨.hbm, 113, rfl⟩
abbrev main_v101 : Ref sig .tc := ⟨.hbm, 114, rfl⟩
abbrev main_v102 : Ref sig .tc := ⟨.hbm, 115, rfl⟩
abbrev main_cst_0 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_c_1 : Ref sig .tc := ⟨.hbm, 124, rfl⟩
abbrev main_v110_0 : Ref sig .tc := ⟨.hbm, 125, rfl⟩
abbrev main_v110_1 : Ref sig .tc := ⟨.hbm, 126, rfl⟩
abbrev main_v110_2 : Ref sig .tc := ⟨.hbm, 127, rfl⟩
abbrev main_while0c_c_21 : Ref sig .tc := ⟨.hbm, 128, rfl⟩
abbrev main_while0c_v195 : Ref sig .tc := ⟨.hbm, 129, rfl⟩
abbrev main_while0b_v195 : Ref sig .tc := ⟨.hbm, 130, rfl⟩
abbrev main_while0b_v196 : Ref sig .tc := ⟨.hbm, 131, rfl⟩
abbrev main_while0b_v197 : Ref sig .tc := ⟨.hbm, 132, rfl⟩
abbrev main_while0b_v198 : Ref sig .tc := ⟨.hbm, 133, rfl⟩
abbrev main_while0b_v199 : Ref sig .tc := ⟨.hbm, 134, rfl⟩
abbrev main_while0b_v200 : Ref sig .tc := ⟨.hbm, 135, rfl⟩
abbrev main_while0b_v201 : Ref sig .tc := ⟨.hbm, 136, rfl⟩
abbrev main_while0b_v202 : Ref sig .tc := ⟨.hbm, 137, rfl⟩
abbrev main_while0b_v203 : Ref sig .tc := ⟨.hbm, 138, rfl⟩
abbrev main_while0b_v204 : Ref sig .tc := ⟨.hbm, 139, rfl⟩
abbrev main_while0b_cst_21 : Ref sig .tc := ⟨.hbm, 140, rfl⟩
abbrev main_while0b_v205 : Ref sig .tc := ⟨.hbm, 141, rfl⟩
abbrev main_while0b_cst_22 : Ref sig .tc := ⟨.hbm, 142, rfl⟩
abbrev main_while0b_v206 : Ref sig .tc := ⟨.hbm, 143, rfl⟩
abbrev main_while0b_v207 : Ref sig .tc := ⟨.hbm, 144, rfl⟩
abbrev main_while0b_cst_23 : Ref sig .tc := ⟨.hbm, 145, rfl⟩
abbrev main_while0b_v208 : Ref sig .tc := ⟨.hbm, 146, rfl⟩
abbrev main_while0b_cst_24 : Ref sig .tc := ⟨.hbm, 147, rfl⟩
abbrev main_while0b_v209 : Ref sig .tc := ⟨.hbm, 148, rfl⟩
abbrev main_while0b_v210 : Ref sig .tc := ⟨.hbm, 149, rfl⟩
abbrev main_while0b_v211 : Ref sig .tc := ⟨.hbm, 150, rfl⟩
abbrev main_while0b_v212 : Ref sig .tc := ⟨.hbm, 151, rfl⟩
abbrev main_while0b_v213 : Ref sig .tc := ⟨.hbm, 152, rfl⟩
abbrev main_while0b_v214 : Ref sig .tc := ⟨.hbm, 153, rfl⟩
abbrev main_while0b_cst_25 : Ref sig .tc := ⟨.hbm, 154, rfl⟩
abbrev main_while0b_v215 : Ref sig .tc := ⟨.hbm, 155, rfl⟩
abbrev main_while0b_cst_26 : Ref sig .tc := ⟨.hbm, 156, rfl⟩
abbrev main_while0b_v216 : Ref sig .tc := ⟨.hbm, 157, rfl⟩
abbrev main_while0b_v217 : Ref sig .tc := ⟨.hbm, 158, rfl⟩
abbrev main_while0b_cst_27 : Ref sig .tc := ⟨.hbm, 159, rfl⟩
abbrev main_while0b_v218 : Ref sig .tc := ⟨.hbm, 160, rfl⟩
abbrev main_while0b_cst_28 : Ref sig .tc := ⟨.hbm, 161, rfl⟩
abbrev main_while0b_v219 : Ref sig .tc := ⟨.hbm, 162, rfl⟩
abbrev main_while0b_cst_29 : Ref sig .tc := ⟨.hbm, 163, rfl⟩
abbrev main_while0b_v220 : Ref sig .tc := ⟨.hbm, 164, rfl⟩
abbrev main_while0b_v221 : Ref sig .tc := ⟨.hbm, 165, rfl⟩
abbrev main_while0b_cst_30 : Ref sig .tc := ⟨.hbm, 166, rfl⟩
abbrev main_while0b_v222 : Ref sig .tc := ⟨.hbm, 167, rfl⟩
abbrev main_while0b_v223 : Ref sig .tc := ⟨.hbm, 168, rfl⟩
abbrev main_while0b_v224 : Ref sig .tc := ⟨.hbm, 169, rfl⟩
abbrev main_while0b_v225 : Ref sig .tc := ⟨.hbm, 170, rfl⟩
abbrev main_while0b_cst_31 : Ref sig .tc := ⟨.hbm, 171, rfl⟩
abbrev main_while0b_v226 : Ref sig .tc := ⟨.hbm, 172, rfl⟩
abbrev main_while0b_cst_32 : Ref sig .tc := ⟨.hbm, 173, rfl⟩
abbrev main_while0b_v227 : Ref sig .tc := ⟨.hbm, 174, rfl⟩
abbrev main_while0b_v228 : Ref sig .tc := ⟨.hbm, 175, rfl⟩
abbrev main_while0b_v229 : Ref sig .tc := ⟨.hbm, 176, rfl⟩
abbrev main_while0b_v230 : Ref sig .tc := ⟨.hbm, 177, rfl⟩
abbrev main_while0b_v231 : Ref sig .tc := ⟨.hbm, 178, rfl⟩
abbrev main_while0b_v232 : Ref sig .tc := ⟨.hbm, 179, rfl⟩
abbrev main_while0b_v233 : Ref sig .tc := ⟨.hbm, 180, rfl⟩
abbrev main_while0b_v234 : Ref sig .tc := ⟨.hbm, 181, rfl⟩
abbrev main_while0b_v235 : Ref sig .tc := ⟨.hbm, 182, rfl⟩
abbrev main_while0b_v236 : Ref sig .tc := ⟨.hbm, 183, rfl⟩
abbrev main_while0b_v237 : Ref sig .tc := ⟨.hbm, 184, rfl⟩
abbrev main_while0b_v238 : Ref sig .tc := ⟨.hbm, 185, rfl⟩
abbrev main_while0b_v239 : Ref sig .tc := ⟨.hbm, 186, rfl⟩
abbrev main_while0b_v240 : Ref sig .tc := ⟨.hbm, 187, rfl⟩
abbrev main_while0b_v241 : Ref sig .tc := ⟨.hbm, 188, rfl⟩
abbrev main_while0b_cst_33 : Ref sig .tc := ⟨.hbm, 189, rfl⟩
abbrev main_while0b_v242 : Ref sig .tc := ⟨.hbm, 190, rfl⟩
abbrev main_while0b_v243 : Ref sig .tc := ⟨.hbm, 191, rfl⟩
abbrev main_while0b_v244 : Ref sig .tc := ⟨.hbm, 192, rfl⟩
abbrev main_while0b_c_34 : Ref sig .tc := ⟨.hbm, 193, rfl⟩
abbrev main_while0b_v245 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_cst_2 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_cst_3 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_cst_4 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_5 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_cst_6 : Ref sig .tc := ⟨.hbm, 218, rfl⟩
abbrev main_cst_7 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_cst_8 : Ref sig .tc := ⟨.hbm, 223, rfl⟩
abbrev main_cst_9 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_cst_10 : Ref sig .tc := ⟨.hbm, 230, rfl⟩
abbrev main_cst_11 : Ref sig .tc := ⟨.hbm, 231, rfl⟩
abbrev main_call2_v0 : Ref sig .tc := ⟨.hbm, 232, rfl⟩
abbrev main_call2_v1 : Ref sig .tc := ⟨.hbm, 233, rfl⟩
abbrev main_call2_v2 : Ref sig .tc := ⟨.hbm, 234, rfl⟩
abbrev main_call2_cst : Ref sig .tc := ⟨.hbm, 235, rfl⟩
abbrev main_call2_v3 : Ref sig .tc := ⟨.hbm, 236, rfl⟩
abbrev main_call2_v4 : Ref sig .tc := ⟨.hbm, 237, rfl⟩
abbrev main_call2_cst_0 : Ref sig .tc := ⟨.hbm, 238, rfl⟩
abbrev main_call2_v5 : Ref sig .tc := ⟨.hbm, 239, rfl⟩
abbrev main_call2_v6 : Ref sig .tc := ⟨.hbm, 240, rfl⟩
abbrev main_call2_v7 : Ref sig .tc := ⟨.hbm, 241, rfl⟩
abbrev main_call2_cst_1 : Ref sig .tc := ⟨.hbm, 242, rfl⟩
abbrev main_call2_v8 : Ref sig .tc := ⟨.hbm, 243, rfl⟩
abbrev main_call2_v9 : Ref sig .tc := ⟨.hbm, 244, rfl⟩
abbrev main_call2_v10 : Ref sig .tc := ⟨.hbm, 245, rfl⟩
abbrev main_call2_v11 : Ref sig .tc := ⟨.hbm, 246, rfl⟩
abbrev main_call2_v12 : Ref sig .tc := ⟨.hbm, 247, rfl⟩
abbrev main_call2_v13 : Ref sig .tc := ⟨.hbm, 248, rfl⟩
abbrev main_call2_v14 : Ref sig .tc := ⟨.hbm, 249, rfl⟩
abbrev main_call2_v15 : Ref sig .tc := ⟨.hbm, 250, rfl⟩
abbrev main_call2_v16 : Ref sig .tc := ⟨.hbm, 251, rfl⟩
abbrev main_v138 : Ref sig .tc := ⟨.hbm, 252, rfl⟩
abbrev main_v139 : Ref sig .tc := ⟨.hbm, 253, rfl⟩
abbrev main_cst_12 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_cst_13 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_cst_14 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_cst_15 : Ref sig .tc := ⟨.hbm, 286, rfl⟩
abbrev main_v169 : Ref sig .tc := ⟨.hbm, 287, rfl⟩
abbrev main_v170 : Ref sig .tc := ⟨.hbm, 288, rfl⟩
abbrev main_cst_16 : Ref sig .tc := ⟨.hbm, 289, rfl⟩
abbrev main_v171 : Ref sig .tc := ⟨.hbm, 290, rfl⟩
abbrev main_v172 : Ref sig .tc := ⟨.hbm, 291, rfl⟩
abbrev main_cst_17 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_cst_18 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩

abbrev nD : Nat := 1
abbrev τ : Topo := Topo.v7x

variable {F : FTy → Type} [FloatOps F]

abbrev main_while0_count : Scf.Loop 32 := ⟨0#32, 9#32, 1#32⟩
-- ==== Proof.Frames.lean ====
/- The three frames and the named constant: each program runs to the end, leaves its arguments as they were and every
   semaphore counter at zero; the waypoints' constant is the real `1/9` the name says. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Claim

@[expose] public section

noncomputable section

namespace Cert.Proof

open Idealize.ShloMosaic Idealize.SL.Sem

/-- The kernel as printed runs and leaves its arguments unchanged. -/
theorem frame_kernel : Cert.quiescent_Kernel := fun m ρ _ => Cert.Kernel.Gen.frame m ρ

/-- The idealized kernel runs and leaves its arguments unchanged. -/
theorem frame_kernelIdeal : Cert.quiescent_KernelIdeal := fun m ρ _ => Cert.KernelIdeal.Gen.frame m ρ

/-- The idealized reference runs and leaves its arguments unchanged; it has no semaphore. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The one named constant has the value its name was given. -/
theorem preserves : Cert.preserves_Kernel_KernelIdeal :=
  IdealRules.named_const.statement Cert.KernelIdeal.κ "ninth" .f32 0x3DE38E39#32 ((1 / 9 : ℝ) : EReal) rfl

end Cert.Proof

end
-- ==== Proof.KernelRun.lean ====
/-
  The idealized kernel's run with its two results: they end at what the last region leaves in their arrays, and the
  arguments end as launched.
-/
module

public import proofs.«01_k».proof.Proof.Gen.KernelIdeal.Frame

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- Every run ends with the two results at the last boundary's contents and every argument as launched. -/
theorem results : θ_run defs (onTc (τ := τ) (main (F := F))) ⟨m, fun _ => 0, ρ⟩ (fun r => ∀ c : Dev nD,
      r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v3_0 (by decide)), h c _ (mem_uc main_v3_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Proof.KernelRun

end
-- ==== Proof.ConvModel.lean ====
/-
  The first region's arithmetic, written once. The kernel unrolls a convolution followed by a 2 × 2 max pool into
  16 chains of 48 products (one chain per output channel and position inside the pool window). Here one chain is
  a recursion over the 48 taps, and every chain of the kernel's run is shown to be an instance of it.
-/
module

public import proofs.«01_k».proof.Proof.Gen.KernelIdeal.Frame

@[expose] public section

set_option maxRecDepth 16384

namespace Cert.Proof.ConvModel

open Idealize.ShloMosaic Idealize.ShloMosaic.TcCoe Cert.KernelIdeal Cert.KernelIdeal.Gen

variable {F : FTy → Type} [FloatOps F]

section

variable (c : Dev nD)
    (a0 : Memref sig .tc .vmem S192x64 .f32) (h0 : a0.IsWhole)
    (a1 : Memref sig .tc .smem S4x3x4x4 .f32) (h1 : a1.IsWhole)
    (x0 : Vec F S192x64 .f32) (x1 : Vec F S4x3x4x4 .f32)

theorem inbW (n : ℕ) (co : Fin 4) : ∀ a, (![co.val, n / 16 % 3, n / 4 % 4, n % 4] : Fin 4 → ℕ) a + S1x1x1x1.size a ≤ S4x3x4x4.size a := by
  have h1 : n / 16 % 3 < 3 := Nat.mod_lt _ (by decide)
  have h2 : n / 4 % 4 < 4 := Nat.mod_lt _ (by decide)
  have h3 : n % 4 < 4 := Nat.mod_lt _ (by decide)
  have h4 := co.isLt
  intro a; fin_cases a <;> simp [S1x1x1x1, S4x3x4x4] <;> omega

/-- The weight of tap `n` for output channel `co`, as the kernel reads it: rounded to bf16 and widened again. -/
noncomputable def wt (co : Fin 4) (n : ℕ) : F .f32 :=
  Scalar.extf .f32 bitsLt_bf16_f32 (Scalar.truncf .bf16 bitsLt_bf16_f32 (View.readAt (Elt F) a1.view
    (Rect.unit (s := S4x3x4x4) ![co.val, n / 16 % 3, n / 4 % 4, n % 4] S1x1x1x1.size (inbW n co)).toLoadRect
    (h1.unread x1) (Shape.Idx.first (show 0 < S1x1x1x1.numel by decide))))

theorem inbR (n : ℕ) (r : Fin 8) : ∀ a, S8x64.size a = 0 ∨ (![64 * (n / 16 % 3) + r.val, 0] : Fin 2 → ℕ) a +
    (![8, 1] : Fin 2 → ℕ) a * (S8x64.size a - 1) < S192x64.size a := by
  have h1 : n / 16 % 3 < 3 := Nat.mod_lt _ (by decide)
  have h2 := r.isLt
  intro a; fin_cases a <;> simp [S8x64, S192x64] <;> omega

/-- Rows `r`, `r + 8`, …, `r + 56` of the channel tap `n` reads, rounded to bf16 and widened again. -/
noncomputable def rows (n : ℕ) (r : Fin 8) : FVec F S8x64 .f32 :=
  extf .f32 (truncf .bf16 (shapeCast S8x64 (View.readAt (Elt F) a0.view
    { off := ![64 * (n / 16 % 3) + r.val, 0], size := S8x64.size, stride := ![8, 1], inb := inbR n r }
    (h0.unread x0)) shapeCasts_S8x64_S8x64) bitsLt_bf16_f32) bitsLt_bf16_f32

/-- The rows that lie one above rows `0, 8, …`: a row of padding, then rows `7, 15, …, 55`. -/
noncomputable def above (n : ℕ) : FVec F S8x64 .f32 :=
  concatenate S8x64 0 [⟨S1x64, broadcast S1x64 (FloatOps.ofBits .f32 0x00000000#32)⟩,
    ⟨S7x64, extractStridedSlice S7x64 ![0, 0] (rows a0 h0 x0 n 7) slices_S8x64_o0_0_S7x64⟩]
    concatenates_S1x64_S7x64_S8x64_d0

/-- The rows at height `k` inside a block of 8 padded rows: height 0 is the row above the block. -/
noncomputable def lhs (n : ℕ) : ℕ → FVec F S8x64 .f32
  | 0 => above a0 h0 x0 n
  | k + 1 => rows a0 h0 x0 n ⟨k % 8, Nat.mod_lt _ (by decide)⟩

/-- Those rows with their columns grouped by residue mod 8. -/
noncomputable def grouped (n k : ℕ) : FVec F S8x72 .f32 :=
  matmul dot_S8x64_S64x72_S8x72_1_0_0_1_n_n none (lhs a0 h0 x0 n k) kernelRun0_A.sl.v56 (constant S8x72 .f32 0x00000000#32)

theorem slG (k : Fin 8) : S8x72.Slices ![0, 8 * ((k.val + 8) % 9)] S8x8 := by
  revert k; decide

/-- The columns at padded residue `k`: residue 0 is the group of padding and columns `7, 15, …`. -/
noncomputable def group (k : Fin 8) (Y : FVec F S8x72 .f32) : FVec F S8x8 .f32 :=
  extractStridedSlice S8x8 ![0, 8 * ((k.val + 8) % 9)] Y (slG k)

/-- Position `g` of a pool window is row `g / 2`, column `g % 2`; tap `n` is channel `n / 16`, row `n / 4 % 4`,
    column `n % 4`. The product of tap `n` at that position. -/
noncomputable def tap (co g : Fin 4) (n : ℕ) : FVec F S8x8 .f32 :=
  mulf (group ⟨(4 * (g.val % 2) + n % 4) % 8, Nat.mod_lt _ (by decide)⟩
    (grouped a0 h0 x0 n (4 * (g.val / 2) + n / 4 % 4))) (broadcast S8x8 (wt a1 h1 x1 co n))

/-- The sum of the taps `0 … n`, added from the left. -/
noncomputable def chain (co g : Fin 4) : ℕ → FVec F S8x8 .f32
  | 0 => tap a0 h0 a1 h1 x0 x1 co g 0
  | n + 1 => addf (chain co g n) (tap a0 h0 a1 h1 x0 x1 co g (n + 1))

variable (a2 : Memref sig .tc .smem S4 .f32) (h2 : a2.IsWhole) (x2 : Vec F S4 .f32)

theorem inbB (co : Fin 4) : ∀ a, (![co.val] : Fin 1 → ℕ) a + S1.size a ≤ S4.size a := by
  revert co; decide

/-- The bias of output channel `co`. -/
noncomputable def bias (co : Fin 4) : F .f32 :=
  View.readAt (Elt F) a2.view (Rect.unit (s := S4) ![co.val] S1.size (inbB co)).toLoadRect (h2.unread x2)
    (Shape.Idx.first (show 0 < S1.numel by decide))

/-- One position of the pool window: the convolution, its bias, the relu, and a rounding to bf16. -/
noncomputable def quarter (co g : Fin 4) : FVec F S8x8 .f32 :=
  extf .f32 (truncf .bf16 (maximumf (addf (chain a0 h0 a1 h1 x0 x1 co g 47) (broadcast S8x8 (bias a2 h2 x2 co)))
    (broadcast S8x8 (Scalar.ofBits .f32 0x00000000#32))) bitsLt_bf16_f32) bitsLt_bf16_f32

/-- The pooled channel: the largest of the four positions. -/
noncomputable def pooled (co : Fin 4) : FVec F S8x8 .f32 :=
  maximumf (maximumf (quarter a0 h0 a1 h1 x0 x1 a2 h2 x2 co 0) (quarter a0 h0 a1 h1 x0 x1 a2 h2 x2 co 1))
    (maximumf (quarter a0 h0 a1 h1 x0 x1 a2 h2 x2 co 2) (quarter a0 h0 a1 h1 x0 x1 a2 h2 x2 co 3))

/-- What the first region stores: channel `co` in rows `8 co … 8 co + 7`. -/
theorem pieces [Named F] (a3 : Memref sig .tc .vmem S32x8 .f32) (h3 : a3.IsWhole) :
    (kernelRun0_A c a0 h0 a1 h1 a2 h2 a3 h3 x0 x1 x2).1 =
      [⟨Rect.unit ![24, 0] ![8, 8] (by decide), pooled a0 h0 a1 h1 x0 x1 a2 h2 x2 3⟩,
       ⟨Rect.unit ![16, 0] ![8, 8] (by decide), pooled a0 h0 a1 h1 x0 x1 a2 h2 x2 2⟩,
       ⟨Rect.unit ![8, 0] ![8, 8] (by decide), pooled a0 h0 a1 h1 x0 x1 a2 h2 x2 1⟩,
       ⟨Rect.unit ![0, 0] ![8, 8] (by decide), pooled a0 h0 a1 h1 x0 x1 a2 h2 x2 0⟩] := by
  rfl

end
end Cert.Proof.ConvModel
end
-- ==== Proof.ConvSpec.lean ====
/-
  The convolution, its relu and the max pool as plain sums over the extended reals. Coordinates are those of the
  image with its border: coordinate `0` is the border, coordinate `i + 1` is the image's `i`.
-/
module

public import Idealize.ShloMosaic.Lib.Pointwise

@[expose] public section

namespace Cert.Proof.ConvSpec

open scoped BigOperators

/-- The image with a border of zeros above and below, at a column of the image. -/
noncomputable def pixRow (X : Fin 3 → Fin 64 → Fin 64 → EReal) (ci : Fin 3) (i : ℕ) (k : Fin 64) : EReal :=
  if h : 1 ≤ i ∧ i - 1 < 64 then X ci ⟨i - 1, h.2⟩ k else 0

/-- The image with a border of zeros all round. -/
noncomputable def pix (X : Fin 3 → Fin 64 → Fin 64 → EReal) (ci : Fin 3) (i j : ℕ) : EReal :=
  if h : 1 ≤ j ∧ j - 1 < 64 then pixRow X ci i ⟨j - 1, h.2⟩ else 0

variable (X : Fin 3 → Fin 64 → Fin 64 → EReal) (W : Fin 4 → Fin 3 → Fin 4 → Fin 4 → EReal) (B : Fin 4 → EReal)

/-- The convolution of stride 4 at row `i`, column `j` of output channel `co`. -/
noncomputable def conv (co : Fin 4) (i j : ℕ) : EReal :=
  ∑ ci : Fin 3, ∑ dy : Fin 4, ∑ dx : Fin 4, pix X ci (4 * i + dy) (4 * j + dx) * W co ci dy dx

/-- The convolution with its bias, under the relu. -/
noncomputable def act (co : Fin 4) (i j : ℕ) : EReal := max (conv X W co i j + B co) 0

/-- The largest of the four values of a pool window. -/
noncomputable def poolAt (co : Fin 4) (p q : ℕ) : EReal :=
  max (max (act X W B co (2 * p) (2 * q)) (act X W B co (2 * p) (2 * q + 1)))
    (max (act X W B co (2 * p + 1) (2 * q)) (act X W B co (2 * p + 1) (2 * q + 1)))

/-- A product with a column of the selection matrix picks one entry, or nothing when the column is the border's. No
    entry but the picked one counts, whatever its value, since `v * 0 = 0` for every extended real. -/
theorem pick_column (v : Fin 64 → EReal) (c : ℕ) :
    ∑ k : Fin 64, v k * (if k.val + 1 = c then 1 else 0) = if h : 1 ≤ c ∧ c - 1 < 64 then v ⟨c - 1, h.2⟩ else 0 := by
  split
  · rename_i h
    rw [Finset.sum_eq_single (⟨c - 1, h.2⟩ : Fin 64)]
    · rw [if_pos (show c - 1 + 1 = c by omega), mul_one]
    · intro k _ hk
      rw [if_neg, mul_zero]
      intro h'
      exact hk (Fin.ext (by show k.val = c - 1; omega))
    · intro h'; exact absurd (Finset.mem_univ _) h'
  · rename_i h
    refine Finset.sum_eq_zero fun k _ => ?_
    rw [if_neg, mul_zero]
    have := k.isLt
    omega

/-- The 48 taps in the order channel, row, column. -/
theorem sum_taps (f : Fin 3 → Fin 4 → Fin 4 → EReal) :
    ∑ n ∈ Finset.range 48, f ⟨n / 16 % 3, Nat.mod_lt _ (by decide)⟩ ⟨n / 4 % 4, Nat.mod_lt _ (by decide)⟩
      ⟨n % 4, Nat.mod_lt _ (by decide)⟩ = ∑ ci, ∑ dy, ∑ dx, f ci dy dx := by
  simp only [Finset.sum_range_succ, Finset.sum_range_zero, Fin.sum_univ_three, Fin.sum_univ_four, zero_add, add_assoc]
  rfl

/-- The 16 positions of the filter, the channels summed at each. -/
theorem sum_positions (f : Fin 3 → Fin 4 → Fin 4 → EReal) :
    ∑ n ∈ Finset.range 16, ∑ ci, f ci ⟨n / 4 % 4, Nat.mod_lt _ (by decide)⟩ ⟨n % 4, Nat.mod_lt _ (by decide)⟩ =
      ∑ ci, ∑ dy, ∑ dx, f ci dy dx := by
  rw [Finset.sum_comm]
  refine Finset.sum_congr rfl fun ci _ => ?_
  simp only [Finset.sum_range_succ, Finset.sum_range_zero, Fin.sum_univ_four, zero_add, add_assoc]
  rfl

end Cert.Proof.ConvSpec
end
-- ==== Proof.ConvValue.lean ====
/-
  The first region's arithmetic at an index, over the extended reals: each chain of products is the convolution of
  the bordered image, and what the region stores is the pooled channel.
-/
module

public import proofs.«01_k».proof.Proof.ConvModel
public import proofs.«01_k».proof.Proof.ConvSpec
public import Idealize.ShloMosaic.Lib.Pointwise
public import Idealize.ShloMosaic.Lib.Pipeline.ValueKit

@[expose] public section

set_option maxRecDepth 16384

namespace Cert.Proof.ConvValue

open Idealize.ShloMosaic Cert.KernelIdeal Cert.KernelIdeal.Gen Cert.Proof.ConvModel Cert.Proof.ConvSpec

variable (a0 : Memref sig .tc .vmem S192x64 .f32) (h0 : a0.IsWhole)
    (a1 : Memref sig .tc .smem S4x3x4x4 .f32) (h1 : a1.IsWhole)
    (x0 : Vec Ideal S192x64 .f32) (x1 : Vec Ideal S4x3x4x4 .f32)

/-- The image as the region holds it: channel `ci` in rows `64 ci … 64 ci + 63`. -/
def image (x0 : Vec Ideal S192x64 .f32) (ci : Fin 3) (i j : Fin 64) : EReal :=
  x0 (ix2 ⟨64 * ci + i, by omega⟩ j)

/-- The filters by coordinates. -/
def filters (x1 : Vec Ideal S4x3x4x4 .f32) (co : Fin 4) (ci : Fin 3) (dy dx : Fin 4) : EReal := x1 (ix4 co ci dy dx)

/-- The biases by coordinates. -/
def biases (x2 : Vec Ideal S4 .f32) (co : Fin 4) : EReal := x2 (ix1 co)

/-- A tap's channel, row and column. -/
abbrev tapC (n : ℕ) : Fin 3 := ⟨n / 16 % 3, Nat.mod_lt _ (by decide)⟩
abbrev tapY (n : ℕ) : Fin 4 := ⟨n / 4 % 4, Nat.mod_lt _ (by decide)⟩
abbrev tapX (n : ℕ) : Fin 4 := ⟨n % 4, Nat.mod_lt _ (by decide)⟩

theorem wt_apply (co : Fin 4) (n : ℕ) : wt (F := Ideal) a1 h1 x1 co n = filters x1 co (tapC n) (tapY n) (tapX n) := by
  unfold wt
  rw [View.readAt_eq_ld, h1.read_unread]
  refine (?_ : View.ld x1 _ _ = _)
  exact View.ld_unit_apply_of _ _ _ _ _ _ (by intro a; fin_cases a <;> rfl)

theorem rows_apply (n : ℕ) (r p : Fin 8) (k : Fin 64) :
    rows (F := Ideal) a0 h0 x0 n r (ix2 p k) = image x0 (tapC n) ⟨8 * p + r, by omega⟩ k := by
  unfold rows
  rw [shapeCast_self]
  refine (?_ : a0.view.read (Elt Ideal) (h0.unread x0) _ = _)
  rw [h0.read_unread]
  refine congrArg x0 (funext fun a => Fin.ext ?_)
  fin_cases a
  · show 64 * (n / 16 % 3) + r.val + 8 * p.val = 64 * (n / 16 % 3) + (8 * p.val + r.val)
    omega
  · show 0 + 1 * k.val = k.val
    omega

theorem above_apply (n : ℕ) (p : Fin 8) (k : Fin 64) :
    above (F := Ideal) a0 h0 x0 n (ix2 p k) = pixRow (image x0) (tapC n) (8 * p) k := by
  unfold above pixRow
  pointwise
  split
  · rename_i h
    rw [dif_neg (by omega)]
  · rename_i h
    rw [rows_apply, dif_pos ⟨by omega, by omega⟩]
    congr 1
    apply Fin.ext
    show 8 * (p.val - 1) + 7 = 8 * p.val - 1
    omega

/-- The left operand of a selection product: the bordered image's rows at height `a` in each block of 8. -/
theorem lhs_apply (n a : ℕ) (ha : a < 8) (p : Fin 8) (k : Fin 64) :
    lhs (F := Ideal) a0 h0 x0 n a (ix2 p k) = pixRow (image x0) (tapC n) (8 * p + a) k := by
  cases a with
  | zero => exact above_apply a0 h0 x0 n p k
  | succ a =>
    show rows a0 h0 x0 n ⟨a % 8, Nat.mod_lt _ (by decide)⟩ (ix2 p k) = _
    unfold pixRow
    rw [rows_apply, dif_pos ⟨by omega, by omega⟩]
    congr 1
    apply Fin.ext
    show 8 * p.val + a % 8 = 8 * p.val + (a + 1) - 1
    omega

theorem sel_word : ∀ (k : Fin 64) (m : Fin 72), kernelRun0_A.sl.v55 (ix2 k m) =
    if k.val + 1 = 8 * (m.val % 8) + (m.val / 8 + 1) % 9 then 1#32 else 0#32 := by
  decide +kernel

/-- The selection matrix: column `m` picks bordered column `8 (m % 8) + (m / 8 + 1) % 9`. -/
theorem sel_apply (k : Fin 64) (m : Fin 72) : kernelRun0_A.sl.v56 (F := Ideal) (ix2 k m) =
    if k.val + 1 = 8 * (m.val % 8) + (m.val / 8 + 1) % 9 then 1 else 0 := by
  unfold kernelRun0_A.sl.v56
  pointwise
  rw [sel_word]
  split
  · show (((1#32 : BitVec 32).toInt : ℝ) : EReal) = 1
    norm_num
  · show (((0#32 : BitVec 32).toInt : ℝ) : EReal) = 0
    norm_num

theorem grouped_apply (n a : ℕ) (ha : a < 8) (p : Fin 8) (m : Fin 72) : grouped (F := Ideal) a0 h0 x0 n a (ix2 p m) =
    pix (image x0) (tapC n) (8 * p + a) (8 * (m.val % 8) + (m.val / 8 + 1) % 9) := by
  unfold grouped
  pointwise
  simp only [lhs_apply a0 h0 x0 n a ha, sel_apply, pick_column]
  rfl

theorem group_apply (b : Fin 8) (n a : ℕ) (ha : a < 8) (p q : Fin 8) :
    group b (grouped (F := Ideal) a0 h0 x0 n a) (ix2 p q) = pix (image x0) (tapC n) (8 * p + a) (8 * q + b) := by
  unfold group
  pointwise
  rw [grouped_apply a0 h0 x0 n a ha]
  congr 1
  show 8 * ((8 * ((b.val + 8) % 9) + q.val) % 8) + ((8 * ((b.val + 8) % 9) + q.val) / 8 + 1) % 9 = _
  omega

/-- One product: the bordered image at stride 4 from the pool window's position, times the filter's entry. -/
theorem tap_apply (co g : Fin 4) (n : ℕ) (p q : Fin 8) : tap (F := Ideal) a0 h0 a1 h1 x0 x1 co g n (ix2 p q) =
    pix (image x0) (tapC n) (4 * (2 * p + g / 2) + tapY n) (4 * (2 * q + g % 2) + tapX n) *
      filters x1 co (tapC n) (tapY n) (tapX n) := by
  unfold tap
  pointwise
  rw [group_apply a0 h0 x0 _ _ _ (by omega), wt_apply]
  congr 2
  · show 8 * p.val + (4 * (g.val / 2) + n / 4 % 4) = 4 * (2 * p.val + g.val / 2) + n / 4 % 4
    omega
  · show 8 * q.val + (4 * (g.val % 2) + n % 4) % 8 = 4 * (2 * q.val + g.val % 2) + n % 4
    omega

theorem chain_sum (co g : Fin 4) (n : ℕ) (p q : Fin 8) : chain (F := Ideal) a0 h0 a1 h1 x0 x1 co g n (ix2 p q) =
    ∑ k ∈ Finset.range (n + 1), tap (F := Ideal) a0 h0 a1 h1 x0 x1 co g k (ix2 p q) := by
  induction n with
  | zero => simp [chain]
  | succ n ih => rw [Finset.sum_range_succ, ← ih]; rfl

/-- A chain of 48 products is the convolution. -/
theorem chain_apply (co g : Fin 4) (p q : Fin 8) : chain (F := Ideal) a0 h0 a1 h1 x0 x1 co g 47 (ix2 p q) =
    conv (image x0) (filters x1) co (2 * p + g / 2) (2 * q + g % 2) := by
  rw [chain_sum]
  simp only [tap_apply]
  exact sum_taps fun ci dy dx => pix (image x0) ci (4 * (2 * p + g / 2) + dy) (4 * (2 * q + g % 2) + dx) * filters x1 co ci dy dx

variable (a2 : Memref sig .tc .smem S4 .f32) (h2 : a2.IsWhole) (x2 : Vec Ideal S4 .f32)

theorem bias_apply (co : Fin 4) : bias (F := Ideal) a2 h2 x2 co = biases x2 co := by
  unfold bias
  rw [View.readAt_eq_ld, h2.read_unread]
  exact View.ld_unit_apply_of _ _ _ _ _ _ (by intro a; fin_cases a; rfl)

theorem quarter_apply (co g : Fin 4) (p q : Fin 8) : quarter (F := Ideal) a0 h0 a1 h1 x0 x1 a2 h2 x2 co g (ix2 p q) =
    act (image x0) (filters x1) (biases x2) co (2 * p + g / 2) (2 * q + g % 2) := by
  unfold quarter act
  rw [← chain_apply a0 h0 a1 h1, ← bias_apply a2 h2]
  pointwise

/-- What the region stores for channel `co` is the pooled channel. -/
theorem pooled_apply (co : Fin 4) (p q : Fin 8) : pooled (F := Ideal) a0 h0 a1 h1 x0 x1 a2 h2 x2 co (ix2 p q) =
    poolAt (image x0) (filters x1) (biases x2) co p q := by
  unfold pooled poolAt
  pointwise
  simp only [quarter_apply]
  rfl

end Cert.Proof.ConvValue
end
-- ==== Proof.HeadModel.lean ====
/-
  The second region's arithmetic, written once: the linear layer's two target coordinates, one step of the inverse
  kinematics (the kernel unrolls nine), the waypoints and the odometry, and the fact that what the kernel's run
  stores is exactly these.
-/
module

public import proofs.«01_k».proof.Proof.Gen.KernelIdeal.Frame

@[expose] public section

set_option maxRecDepth 16384

namespace Cert.Proof.HeadModel

open Idealize.ShloMosaic Idealize.ShloMosaic.TcCoe Cert.KernelIdeal Cert.KernelIdeal.Gen

variable {F : FTy → Type} [FloatOps F]

/-- One coordinate of the target: a row of the linear layer's product, plus its bias. -/
noncomputable def target (w : FVec F S2x256 .f32) (f : FVec F S256x1 .f32) (r : Fin 2) (b : F .f32) : FVec F S1x1 .f32 :=
  addf (extractStridedSlice S1x1 ![r.val, 0]
    (matmul dot_S2x256_S256x1_S2x1_1_0_0_1_n_n none w (shapeCast S256x1 f shapeCasts_S256x1_S256x1) (constant S2x1 .f32 0x00000000#32))
    (show S2x1.Slices ![r.val, 0] S1x1 by revert r; decide)) (broadcast S1x1 b)

/-- One word at every index of a 1 × 1 array. -/
noncomputable def word (b : BitVec 32) : FVec F S1x1 .f32 := broadcast S1x1 (Scalar.ofBits .f32 b)

/-- The inverse of the Jacobian's determinant, moved off zero. -/
noncomputable def inv (q1 q2 : FVec F S1x1 .f32) : FVec F S1x1 .f32 :=
  divf (word 0x3F800000#32) (addf (subf
    (mulf (subf (subf (word 0x00000000#32) (sin q1)) (sin (addf q1 q2))) (cos (addf q1 q2)))
    (mulf (subf (word 0x00000000#32) (sin (addf q1 q2))) (addf (cos q1) (cos (addf q1 q2))))) (word 0x358637BD#32))

/-- The 2 × 2 inverse of the Jacobian, built from its four entries by selection on the indices. -/
noncomputable def invJ (q1 q2 : FVec F S1x1 .f32) : FVec F S2x2 .f32 :=
  select (cmpi .eq (iota .tc S2x2 32 [0] iota_S2x2_d0_w32) (broadcast S2x2 0#32))
    (select (cmpi .eq (iota .tc S2x2 32 [1] iota_S2x2_d1_w32) (broadcast S2x2 0#32))
      (broadcastTo S2x2 (shapeCast S1x1 (mulf (cos (addf q1 q2)) (inv q1 q2)) shapeCasts_S1x1_S1x1) broadcasts_S1x1_S2x2)
      (broadcastTo S2x2 (shapeCast S1x1 (mulf (subf (word 0x00000000#32)
        (subf (word 0x00000000#32) (sin (addf q1 q2)))) (inv q1 q2)) shapeCasts_S1x1_S1x1) broadcasts_S1x1_S2x2))
    (select (cmpi .eq (iota .tc S2x2 32 [1] iota_S2x2_d1_w32) (broadcast S2x2 0#32))
      (broadcastTo S2x2 (shapeCast S1x1 (mulf (subf (word 0x00000000#32)
        (addf (cos q1) (cos (addf q1 q2)))) (inv q1 q2)) shapeCasts_S1x1_S1x1) broadcasts_S1x1_S2x2)
      (broadcastTo S2x2 (shapeCast S1x1 (mulf (subf (subf (word 0x00000000#32) (sin q1)) (sin (addf q1 q2)))
        (inv q1 q2)) shapeCasts_S1x1_S1x1) broadcasts_S1x1_S2x2))

/-- The distance from the arm's end to the target, as a column. -/
noncomputable def err (t0 t1 q1 q2 : FVec F S1x1 .f32) : FVec F S2x1 .f32 :=
  select (cmpi .eq (iota .tc S2x1 32 [0] iota_S2x1_d0_w32) (broadcast S2x1 0#32))
    (broadcastTo S2x1 (shapeCast S1x1 (subf t0 (addf (cos q1) (cos (addf q1 q2)))) shapeCasts_S1x1_S1x1) broadcasts_S1x1_S2x1)
    (broadcastTo S2x1 (shapeCast S1x1 (subf t1 (addf (sin q1) (sin (addf q1 q2)))) shapeCasts_S1x1_S1x1) broadcasts_S1x1_S2x1)

/-- The step in the two angles. -/
noncomputable def dq (t0 t1 q1 q2 : FVec F S1x1 .f32) : FVec F S2x1 .f32 :=
  matmul dot_S2x2_S2x1_S2x1_1_0_0_1_n_n none (invJ q1 q2) (err t0 t1 q1 q2) (constant S2x1 .f32 0x00000000#32)

/-- One step of the inverse kinematics. -/
noncomputable def step (t0 t1 : FVec F S1x1 .f32) (q : FVec F S1x1 .f32 × FVec F S1x1 .f32) :
    FVec F S1x1 .f32 × FVec F S1x1 .f32 :=
  (addf q.1 (extractStridedSlice S1x1 ![0, 0] (dq t0 t1 q.1 q.2) slices_S2x1_o0_0_S1x1),
   addf q.2 (extractStridedSlice S1x1 ![1, 0] (dq t0 t1 q.1 q.2) slices_S2x1_o1_0_S1x1))

/-- The angles after `n` steps. -/
noncomputable def angles (t0 t1 : FVec F S1x1 .f32) (q : FVec F S1x1 .f32 × FVec F S1x1 .f32) :
    ℕ → FVec F S1x1 .f32 × FVec F S1x1 .f32
  | 0 => q
  | n + 1 => step t0 t1 (angles t0 t1 q n)

/-- The waypoints, from the arm's end at the angles `q`. -/
noncomputable def waypoints [Named F] (q : FVec F S1x1 .f32 × FVec F S1x1 .f32) : FVec F S19x2 .f32 :=
  select (cmpi .eq (iota .tc S19x2 32 [1] iota_S19x2_d1_w32) (broadcast S19x2 0#32))
    (subf (broadcastTo S19x2 (addf (cos q.1) (cos (addf q.1 q.2))) broadcasts_S1x1_S19x2)
      (mulf (broadcast S19x2 (Scalar.ofBits .f32 0x3E4CCCCD#32))
        (mulf (minimumf (sitofp .f32 (iota .tc S19x2 32 [0] iota_S19x2_d0_w32)) (broadcast S19x2 (Scalar.ofBits .f32 0x41100000#32)))
          (broadcast S19x2 (Named.named κ "ninth" 0x3DE38E39#32)))))
    (subf (broadcastTo S19x2 (addf (sin q.1) (sin (addf q.1 q.2))) broadcasts_S1x1_S19x2)
      (mulf (broadcast S19x2 (Scalar.ofBits .f32 0x3DCCCCCD#32))
        (mulf (maximumf (subf (sitofp .f32 (iota .tc S19x2 32 [0] iota_S19x2_d0_w32)) (broadcast S19x2 (Scalar.ofBits .f32 0x41100000#32)))
            (broadcast S19x2 (Scalar.ofBits .f32 0x00000000#32)))
          (broadcast S19x2 (Named.named κ "ninth" 0x3DE38E39#32)))))

/-- The wheel's way from its ticks. -/
noncomputable def way (d : F .f32) : F .f32 := Scalar.mulf d (Scalar.ofBits .f32 0x38D1B717#32)

/-- The way of the robot's middle. -/
noncomputable def middle (dl dr : F .f32) : F .f32 := Scalar.mulf (Scalar.addf (way dl) (way dr)) (Scalar.ofBits .f32 0x3F000000#32)

/-- The robot's turn. -/
noncomputable def turn (dl dr : F .f32) : F .f32 := Scalar.mulf (Scalar.subf (way dr) (way dl)) (Scalar.ofBits .f32 0x40000000#32)

/-- The heading halfway through the turn. -/
noncomputable def heading (p2 dl dr : F .f32) : FVec F S1x1 .f32 :=
  broadcast S1x1 (Scalar.addf p2 (Scalar.mulf (turn dl dr) (Scalar.ofBits .f32 0x3F000000#32)))

/-- The new pose's first coordinate. -/
noncomputable def poseX (p0 p2 dl dr : F .f32) : F .f32 :=
  Scalar.addf p0 (Scalar.mulf (middle dl dr) (extractAt ![0, 0] (cos (heading p2 dl dr)) inpos_S1x1_p0_0))

/-- The new pose's second coordinate. -/
noncomputable def poseY (p1 p2 dl dr : F .f32) : F .f32 :=
  Scalar.addf p1 (Scalar.mulf (middle dl dr) (extractAt ![0, 0] (sin (heading p2 dl dr)) inpos_S1x1_p0_0))

section

variable (c : Dev nD) (a0 : Memref sig .tc .vmem S2x256 .f32) (h0 : a0.IsWhole) (a1 : Memref sig .tc .vmem S256x1 .f32) (h1 : a1.IsWhole)
    (a2 : Memref sig .tc .smem S2 .f32) (h2 : a2.IsWhole) (a3 : Memref sig .tc .smem S3 .f32) (h3 : a3.IsWhole)
    (a4 : Memref sig .tc .smem S2 .f32) (h4 : a4.IsWhole) (a5 : Memref sig .tc .smem S2 .f32) (h5 : a5.IsWhole)
    (a6 : Memref sig .tc .vmem S19x2 .f32) (h6 : a6.IsWhole) (a7 : Memref sig .tc .smem S3 .f32) (h7 : a7.IsWhole)
    (x0 : Vec F S2x256 .f32) (x1 : Vec F S256x1 .f32) (x2 : Vec F S2 .f32) (x3 : Vec F S3 .f32) (x4 : Vec F S2 .f32) (x5 : Vec F S2 .f32)

/-- Entry `i` of a two-entry array in scalar memory. -/
noncomputable def pick2 (a : Memref sig .tc .smem S2 .f32) (h : a.IsWhole) (x : Vec F S2 .f32) (i : Fin 2) : F .f32 :=
  View.readAt (Elt F) a.view (Rect.unit (s := S2) ![i.val] S1.size (by revert i; decide)).toLoadRect (h.unread x)
    (Shape.Idx.first (show 0 < S1.numel by decide))

/-- Entry `i` of a three-entry array in scalar memory. -/
noncomputable def pick3 (a : Memref sig .tc .smem S3 .f32) (h : a.IsWhole) (x : Vec F S3 .f32) (i : Fin 3) : F .f32 :=
  View.readAt (Elt F) a.view (Rect.unit (s := S3) ![i.val] S1.size (by revert i; decide)).toLoadRect (h.unread x)
    (Shape.Idx.first (show 0 < S1.numel by decide))

/-- Coordinate `r` of the target, from the arrays as they are loaded. -/
noncomputable def goal (r : Fin 2) : FVec F S1x1 .f32 :=
  target (View.readAt (Elt F) a0.view (Rect.unit (s := S2x256) ![0, 0] S2x256.size inb_S2x256_S2x256_0_0).toLoadRect (h0.unread x0))
    (View.readAt (Elt F) a1.view (Rect.unit (s := S256x1) ![0, 0] S256x1.size inb_S256x1_S256x1_0_0).toLoadRect (h1.unread x1))
    r (pick2 a2 h2 x2 r)

/-- The kernel's nine unrolled steps, each the same step from the pair of angles before it. -/
theorem unrolled : angles (goal a0 h0 a1 h1 a2 h2 x0 x1 x2 0) (goal a0 h0 a1 h1 a2 h2 x0 x1 x2 1)
    (broadcast S1x1 (pick2 a4 h4 x4 0), broadcast S1x1 (pick2 a4 h4 x4 1)) 9 =
    (kernelRun1_A.sl.r_80 c a0 h0 a1 h1 a2 h2 a4 h4 x0 x1 x2 x4, kernelRun1_A.sl.r_81 c a0 h0 a1 h1 a2 h2 a4 h4 x0 x1 x2 x4) := by
  have g0 : goal a0 h0 a1 h1 a2 h2 x0 x1 x2 0 = kernelRun1_A.sl.r_4 c a0 h0 a1 h1 a2 h2 x0 x1 x2 := rfl
  have g1 : goal a0 h0 a1 h1 a2 h2 x0 x1 x2 1 = kernelRun1_A.sl.r_5 c a0 h0 a1 h1 a2 h2 x0 x1 x2 := rfl
  have q0 : (broadcast S1x1 (pick2 a4 h4 x4 0), broadcast S1x1 (pick2 a4 h4 x4 1)) = (kernelRun1_A.sl.r_6 c a4 h4 x4, kernelRun1_A.sl.r_7 c a4 h4 x4) := rfl
  rw [g0, g1, q0]
  simp only [angles]
  rw [show step (kernelRun1_A.sl.r_4 c a0 h0 a1 h1 a2 h2 x0 x1 x2) (kernelRun1_A.sl.r_5 c a0 h0 a1 h1 a2 h2 x0 x1 x2) (kernelRun1_A.sl.r_6 c a4 h4 x4, kernelRun1_A.sl.r_7 c a4 h4 x4) = (kernelRun1_A.sl.r_15 c a0 h0 a1 h1 a2 h2 a4 h4 x0 x1 x2 x4, kernelRun1_A.sl.r_16 c a0 h0 a1 h1 a2 h2 a4 h4 x0 x1 x2 x4) from rfl]
  rw [show step (kernelRun1_A.sl.r_4 c a0 h0 a1 h1 a2 h2 x0 x1 x2) (kernelRun1_A.sl.r_5 c a0 h0 a1 h1 a2 h2 x0 x1 x2) (kernelRun1_A.sl.r_15 c a0 h0 a1 h1 a2 h2 a4 h4 x0 x1 x2 x4, kernelRun1_A.sl.r_16 c a0 h0 a1 h1 a2 h2 a4 h4 x0 x1 x2 x4) = (kernelRun1_A.sl.r_24 c a0 h0 a1 h1 a2 h2 a4 h4 x0 x1 x2 x4, kernelRun1_A.sl.r_25 c a0 h0 a1 h1 a2 h2 a4 h4 x0 x1 x2 x4) from rfl]
  rw [show step (kernelRun1_A.sl.r_4 c a0 h0 a1 h1 a2 h2 x0 x1 x2) (kernelRun1_A.sl.r_5 c a0 h0 a1 h1 a2 h2 x0 x1 x2) (kernelRun1_A.sl.r_24 c a0 h0 a1 h1 a2 h2 a4 h4 x0 x1 x2 x4, kernelRun1_A.sl.r_25 c a0 h0 a1 h1 a2 h2 a4 h4 x0 x1 x2 x4) = (kernelRun1_A.sl.r_32 c a0 h0 a1 h1 a2 h2 a4 h4 x0 x1 x2 x4, kernelRun1_A.sl.r_33 c a0 h0 a1 h1 a2 h2 a4 h4 x0 x1 x2 x4) from rfl]
  rw [show step (kernelRun1_A.sl.r_4 c a0 h0 a1 h1 a2 h2 x0 x1 x2) (kernelRun1_A.sl.r_5 c a0 h0 a1 h1 a2 h2 x0 x1 x2) (kernelRun1_A.sl.r_32 c a0 h0 a1 h1 a2 h2 a4 h4 x0 x1 x2 x4, kernelRun1_A.sl.r_33 c a0 h0 a1 h1 a2 h2 a4 h4 x0 x1 x2 x4) = (kernelRun1_A.sl.r_39 c a0 h0 a1 h1 a2 h2 a4 h4 x0 x1 x2 x4, kernelRun1_A.sl.r_40 c a0 h0 a1 h1 a2 h2 a4 h4 x0 x1 x2 x4) from rfl]
  rw [show step (kernelRun1_A.sl.r_4 c a0 h0 a1 h1 a2 h2 x0 x1 x2) (kernelRun1_A.sl.r_5 c a0 h0 a1 h1 a2 h2 x0 x1 x2) (kernelRun1_A.sl.r_39 c a0 h0 a1 h1 a2 h2 a4 h4 x0 x1 x2 x4, kernelRun1_A.sl.r_40 c a0 h0 a1 h1 a2 h2 a4 h4 x0 x1 x2 x4) = (kernelRun1_A.sl.r_46 c a0 h0 a1 h1 a2 h2 a4 h4 x0 x1 x2 x4, kernelRun1_A.sl.r_47 c a0 h0 a1 h1 a2 h2 a4 h4 x0 x1 x2 x4) from rfl]
  rw [show step (kernelRun1_A.sl.r_4 c a0 h0 a1 h1 a2 h2 x0 x1 x2) (kernelRun1_A.sl.r_5 c a0 h0 a1 h1 a2 h2 x0 x1 x2) (kernelRun1_A.sl.r_46 c a0 h0 a1 h1 a2 h2 a4 h4 x0 x1 x2 x4, kernelRun1_A.sl.r_47 c a0 h0 a1 h1 a2 h2 a4 h4 x0 x1 x2 x4) = (kernelRun1_A.sl.r_54 c a0 h0 a1 h1 a2 h2 a4 h4 x0 x1 x2 x4, kernelRun1_A.sl.r_55 c a0 h0 a1 h1 a2 h2 a4 h4 x0 x1 x2 x4) from rfl]
  rw [show step (kernelRun1_A.sl.r_4 c a0 h0 a1 h1 a2 h2 x0 x1 x2) (kernelRun1_A.sl.r_5 c a0 h0 a1 h1 a2 h2 x0 x1 x2) (kernelRun1_A.sl.r_54 c a0 h0 a1 h1 a2 h2 a4 h4 x0 x1 x2 x4, kernelRun1_A.sl.r_55 c a0 h0 a1 h1 a2 h2 a4 h4 x0 x1 x2 x4) = (kernelRun1_A.sl.r_63 c a0 h0 a1 h1 a2 h2 a4 h4 x0 x1 x2 x4, kernelRun1_A.sl.r_64 c a0 h0 a1 h1 a2 h2 a4 h4 x0 x1 x2 x4) from rfl]
  rw [show step (kernelRun1_A.sl.r_4 c a0 h0 a1 h1 a2 h2 x0 x1 x2) (kernelRun1_A.sl.r_5 c a0 h0 a1 h1 a2 h2 x0 x1 x2) (kernelRun1_A.sl.r_63 c a0 h0 a1 h1 a2 h2 a4 h4 x0 x1 x2 x4, kernelRun1_A.sl.r_64 c a0 h0 a1 h1 a2 h2 a4 h4 x0 x1 x2 x4) = (kernelRun1_A.sl.r_72 c a0 h0 a1 h1 a2 h2 a4 h4 x0 x1 x2 x4, kernelRun1_A.sl.r_73 c a0 h0 a1 h1 a2 h2 a4 h4 x0 x1 x2 x4) from rfl]
  rw [show step (kernelRun1_A.sl.r_4 c a0 h0 a1 h1 a2 h2 x0 x1 x2) (kernelRun1_A.sl.r_5 c a0 h0 a1 h1 a2 h2 x0 x1 x2) (kernelRun1_A.sl.r_72 c a0 h0 a1 h1 a2 h2 a4 h4 x0 x1 x2 x4, kernelRun1_A.sl.r_73 c a0 h0 a1 h1 a2 h2 a4 h4 x0 x1 x2 x4) = (kernelRun1_A.sl.r_80 c a0 h0 a1 h1 a2 h2 a4 h4 x0 x1 x2 x4, kernelRun1_A.sl.r_81 c a0 h0 a1 h1 a2 h2 a4 h4 x0 x1 x2 x4) from rfl]

/-- The waypoints' store. -/
theorem pieces6 [Named F] : (kernelRun1_A c a0 h0 a1 h1 a2 h2 a3 h3 a4 h4 a5 h5 a6 h6 a7 h7 x0 x1 x2 x3 x4 x5).1 =
    [⟨Rect.unit ![0, 0] S19x2.size inb_S19x2_S19x2_0_0,
      waypoints (angles (goal a0 h0 a1 h1 a2 h2 x0 x1 x2 0) (goal a0 h0 a1 h1 a2 h2 x0 x1 x2 1)
        (broadcast S1x1 (pick2 a4 h4 x4 0), broadcast S1x1 (pick2 a4 h4 x4 1)) 9)⟩] := by
  rw [unrolled c]
  rfl

/-- The new pose's three stores. -/
theorem pieces7 [Named F] : (kernelRun1_A c a0 h0 a1 h1 a2 h2 a3 h3 a4 h4 a5 h5 a6 h6 a7 h7 x0 x1 x2 x3 x4 x5).2.1 =
    [⟨Rect.unit ![2] S1.size inb_S3_S1_2, fun _ => Scalar.addf (pick3 a3 h3 x3 2) (turn (pick2 a5 h5 x5 0) (pick2 a5 h5 x5 1))⟩,
     ⟨Rect.unit ![1] S1.size inb_S3_S1_1, fun _ => poseY (pick3 a3 h3 x3 1) (pick3 a3 h3 x3 2) (pick2 a5 h5 x5 0) (pick2 a5 h5 x5 1)⟩,
     ⟨Rect.unit ![0] S1.size inb_S3_S1_0, fun _ => poseX (pick3 a3 h3 x3 0) (pick3 a3 h3 x3 2) (pick2 a5 h5 x5 0) (pick2 a5 h5 x5 1)⟩] := by
  rfl

end
end Cert.Proof.HeadModel
end
-- ==== Proof.HeadSpec.lean ====
/-
  The inverse kinematics, the waypoints and the odometry as plain formulas over the extended reals, with the scalar
  facts that reconcile the two programs' ways of writing them.
-/
module

public import Idealize.ShloMosaic.Lib.Pointwise

@[expose] public section

namespace Cert.Proof.HeadSpec

open Idealize.ShloMosaic

/-! ## Words -/

theorem word_negOne : (Ideal.ofBits .f32 0xBF800000#32 : EReal) = -1 := by
  simp [Ideal.ofBits, Ideal.ieee]
  rw [← EReal.coe_mul]
  norm_num

theorem word_half : (Ideal.ofBits .f32 0x3F000000#32 : EReal) = ((1 / 2 : ℝ) : EReal) := by
  simp [Ideal.ofBits, Ideal.ieee]
  rw [← EReal.coe_mul]
  norm_num

theorem word_two : (Ideal.ofBits .f32 0x40000000#32 : EReal) = ((2 : ℝ) : EReal) := by
  simp [Ideal.ofBits, Ideal.ieee]
  rw [← EReal.coe_mul]
  norm_num

theorem word_nine : (Ideal.ofBits .f32 0x41100000#32 : EReal) = ((9 : ℝ) : EReal) := by
  simp [Ideal.ofBits, Ideal.ieee]
  rw [← EReal.coe_mul]
  norm_num

/-- The float nearest 0.2, as the real it is. -/
noncomputable def back : ℝ := 13421773 / 67108864

/-- The float nearest 0.1, as the real it is. -/
noncomputable def down : ℝ := 13421773 / 134217728

theorem word_back : (Ideal.ofBits .f32 0x3E4CCCCD#32 : EReal) = (back : EReal) := by
  simp [Ideal.ofBits, Ideal.ieee]
  rw [← EReal.coe_mul]
  norm_num [back]

theorem word_negBack : (Ideal.ofBits .f32 0xBE4CCCCD#32 : EReal) = ((-back : ℝ) : EReal) := by
  simp [Ideal.ofBits, Ideal.ieee]
  rw [← EReal.coe_mul]
  norm_num [back]

theorem word_down : (Ideal.ofBits .f32 0x3DCCCCCD#32 : EReal) = (down : EReal) := by
  simp [Ideal.ofBits, Ideal.ieee]
  rw [← EReal.coe_mul]
  norm_num [down]

theorem word_negDown : (Ideal.ofBits .f32 0xBDCCCCCD#32 : EReal) = ((-down : ℝ) : EReal) := by
  simp [Ideal.ofBits, Ideal.ieee]
  rw [← EReal.coe_mul]
  norm_num [down]

theorem negOne_mul (x : EReal) : (-1 : EReal) * x = -x := by rw [EReal.neg_mul, one_mul]

/-! ## Inverse kinematics -/

/-- The Jacobian's determinant, moved off zero, inverted. -/
noncomputable def inv (q1 q2 : EReal) : EReal :=
  Ideal.div 1 ((-Ideal.sin q1 - Ideal.sin (q1 + q2)) * Ideal.cos (q1 + q2)
    - -Ideal.sin (q1 + q2) * (Ideal.cos q1 + Ideal.cos (q1 + q2)) + Ideal.ofBits .f32 0x358637BD#32)

/-- One step: the inverse Jacobian times the distance to the target, added to the angles. -/
noncomputable def step (t : EReal × EReal) (q : EReal × EReal) : EReal × EReal :=
  (q.1 + (Ideal.cos (q.1 + q.2) * inv q.1 q.2 * (t.1 - (Ideal.cos q.1 + Ideal.cos (q.1 + q.2)))
      + - -Ideal.sin (q.1 + q.2) * inv q.1 q.2 * (t.2 - (Ideal.sin q.1 + Ideal.sin (q.1 + q.2)))),
   q.2 + (-(Ideal.cos q.1 + Ideal.cos (q.1 + q.2)) * inv q.1 q.2 * (t.1 - (Ideal.cos q.1 + Ideal.cos (q.1 + q.2)))
      + (-Ideal.sin q.1 - Ideal.sin (q.1 + q.2)) * inv q.1 q.2 * (t.2 - (Ideal.sin q.1 + Ideal.sin (q.1 + q.2)))))

/-- The angles after `n` steps. -/
noncomputable def angles (t q : EReal × EReal) : ℕ → EReal × EReal
  | 0 => q
  | n + 1 => step t (angles t q n)

/-! ## Waypoints -/

/-- The arm's end never lies at `⊤`: a sine or cosine is real or, of an infinite angle, `⊥`. -/
theorem cos_ne_top (x : EReal) : Ideal.cos x ≠ ⊤ := by
  induction x <;> simp

theorem sin_ne_top (x : EReal) : Ideal.sin x ≠ ⊤ := by
  induction x <;> simp

theorem add_ne_top' {x y : EReal} (hx : x ≠ ⊤) (hy : y ≠ ⊤) : x + y ≠ ⊤ := EReal.add_ne_top hx hy

/-- Between a point and the point moved by `w`, the share `t` of the way is the point moved by `w t`: at `⊥` too,
    since one of the two shares is positive. -/
theorem between {x : EReal} (hx : x ≠ ⊤) (w t : ℝ) (h0 : 0 ≤ t) (h1 : t ≤ 1) :
    x * (1 - (t : EReal)) + (x + (w : EReal)) * (t : EReal) = x + ((w * t : ℝ) : EReal) := by
  have e : (1 - (t : EReal)) = ((1 - t : ℝ) : EReal) := by norm_cast
  rw [e]
  induction x with
  | top => exact absurd rfl hx
  | coe r => norm_cast; ring
  | bot =>
    rw [EReal.bot_add, EReal.bot_add]
    rcases h0.lt_or_eq with h | h
    · rw [EReal.bot_mul_coe_of_pos h]; exact EReal.add_bot _
    · subst h
      rw [sub_zero, EReal.coe_one, mul_one, EReal.coe_zero, mul_zero]; exact EReal.bot_add _

/-- The share of a stretch at its point `n` of 9. -/
theorem share (n : ℕ) (hn : n ≤ 9) :
    (if n < 9 then (0 : EReal) * (1 - Ideal.div ((n : ℝ) : EReal) ((9 : ℝ) : EReal)) +
      1 * Ideal.div ((n : ℝ) : EReal) ((9 : ℝ) : EReal) else 1) = (((n : ℝ) / 9 : ℝ) : EReal) := by
  split
  · rw [Ideal.div_coe (by norm_num), zero_mul, zero_add, one_mul, ← EReal.coe_mul]
    congr 1; ring
  · rw [show n = 9 by omega]; norm_num

/-- Waypoint `i`, coordinate `j`, of the arm's end `(x, y)`: nine steps back in `x`, then nine down in `y`. -/
noncomputable def way (x y : EReal) (i : ℕ) (j : ℕ) : EReal :=
  if j = 0 then x + ((-back * ((min i 9 : ℕ) / 9) : ℝ) : EReal) else y + ((-down * ((i - 9 : ℕ) / 9) : ℝ) : EReal)

theorem min_nine (i : ℕ) : min (((i : ℝ)) : EReal) ((9 : ℝ) : EReal) * ((1 / 9 : ℝ) : EReal) = (((min i 9 : ℕ) / 9 : ℝ) : EReal) := by
  rw [← EReal.coe_strictMono.monotone.map_min, ← EReal.coe_mul]
  congr 1
  push_cast
  ring

theorem max_nine (i : ℕ) : max ((((i : ℝ)) : EReal) - ((9 : ℝ) : EReal)) 0 * ((1 / 9 : ℝ) : EReal) = (((i - 9 : ℕ) / 9 : ℝ) : EReal) := by
  rw [← EReal.coe_sub, ← EReal.coe_zero, ← EReal.coe_strictMono.monotone.map_max, ← EReal.coe_mul]
  congr 1
  rcases le_total i 9 with h | h
  · have : (i : ℝ) ≤ 9 := by exact_mod_cast h
    rw [max_eq_right (by linarith), Nat.sub_eq_zero_of_le h]; norm_num
  · have : (9 : ℝ) ≤ i := by exact_mod_cast h
    rw [max_eq_left (by linarith)]
    push_cast [Nat.cast_sub h]
    ring

/-- A point on the first stretch, from the arm's end to the point moved back. -/
theorem first_stretch {x y : EReal} (hx : x ≠ ⊤) (hy : y ≠ ⊤) (i j : ℕ) (hi : i < 10) :
    (if j < 1 then x else y) * (1 - (((i : ℝ) / 9 : ℝ) : EReal)) +
      ((if j < 1 then x else y) + if j < 1 then ((-back : ℝ) : EReal) else 0) * (((i : ℝ) / 9 : ℝ) : EReal) = way x y i j := by
  have h0 : (0 : ℝ) ≤ (i : ℝ) / 9 := by positivity
  have h1 : (i : ℝ) / 9 ≤ 1 := by
    rw [div_le_one (by norm_num)]
    exact_mod_cast (show i ≤ 9 by omega)
  unfold way
  by_cases hj : j = 0
  · simp only [hj, Nat.lt_one_iff, if_true]
    rw [between hx _ _ h0 h1, Nat.min_eq_left (by omega)]
  · simp only [hj, Nat.lt_one_iff, if_false]
    rw [← EReal.coe_zero, between hy _ _ h0 h1, Nat.sub_eq_zero_of_le (by omega)]
    simp

/-- A point on the second stretch, from the point moved back to the point moved back and down. -/
theorem second_stretch {x y : EReal} (hx : x ≠ ⊤) (hy : y ≠ ⊤) (i j : ℕ) (hi : ¬ i < 10) (hi' : i < 19) :
    ((if j < 1 then x else y) + if j < 1 then ((-back : ℝ) : EReal) else 0) *
        (1 - ((((1 + (i - 10) : ℕ) : ℝ) / 9 : ℝ) : EReal)) +
      (((if j < 1 then x else y) + if j < 1 then ((-back : ℝ) : EReal) else 0) +
        if j < 1 then 0 else ((-down : ℝ) : EReal)) * ((((1 + (i - 10) : ℕ) : ℝ) / 9 : ℝ) : EReal) = way x y i j := by
  have h0 : (0 : ℝ) ≤ ((1 + (i - 10) : ℕ) : ℝ) / 9 := by positivity
  have h1 : ((1 + (i - 10) : ℕ) : ℝ) / 9 ≤ 1 := by
    rw [div_le_one (by norm_num)]
    exact_mod_cast (show 1 + (i - 10) ≤ 9 by omega)
  unfold way
  by_cases hj : j = 0
  · simp only [hj, Nat.lt_one_iff, if_true]
    rw [← EReal.coe_zero, between (add_ne_top' hx (EReal.coe_ne_top _)) _ _ h0 h1, Nat.min_eq_right (by omega)]
    simp
  · simp only [hj, Nat.lt_one_iff, if_false]
    rw [add_zero, between hy _ _ h0 h1, show i - 9 = 1 + (i - 10) by omega]

/-! ## Odometry -/

theorem half_turn (d : EReal) : Ideal.div d ((1 / 2 : ℝ) : EReal) = d * ((2 : ℝ) : EReal) := by
  rw [Ideal.div_coe (by norm_num)]; norm_num

theorem halve (d : EReal) : Ideal.div d ((2 : ℝ) : EReal) = d * ((1 / 2 : ℝ) : EReal) := by
  rw [Ideal.div_coe (by norm_num)]

end Cert.Proof.HeadSpec
end
-- ==== Proof.HeadValue.lean ====
/-
  The second region's arithmetic at an index, over the extended reals.
-/
module

public import proofs.«01_k».proof.Proof.HeadModel
public import proofs.«01_k».proof.Proof.HeadSpec
public import Idealize.ShloMosaic.Lib.Pointwise
public import Idealize.ShloMosaic.Lib.Pipeline.ValueKit

@[expose] public section

set_option maxRecDepth 16384

namespace Cert.Proof.HeadValue

open Idealize.ShloMosaic Cert.KernelIdeal Cert.KernelIdeal.Gen

/-- The one entry of a pair of 1 × 1 arrays. -/
noncomputable def entry (q : FVec Ideal S1x1 .f32 × FVec Ideal S1x1 .f32) : EReal × EReal := (q.1 (ix2 0 0), q.2 (ix2 0 0))

/-- One step of the kernel, entry by entry. -/
theorem step_entry (t0 t1 : FVec Ideal S1x1 .f32) (q : FVec Ideal S1x1 .f32 × FVec Ideal S1x1 .f32) :
    entry (HeadModel.step t0 t1 q) = HeadSpec.step (entry (t0, t1)) (entry q) := by
  refine Prod.ext ?_ ?_
  · show (HeadModel.step t0 t1 q).1 (ix2 0 0) = _
    unfold HeadModel.step HeadModel.dq
    pointwise
    rw [Fin.sum_univ_two]
    unfold HeadModel.invJ HeadModel.err HeadModel.inv HeadModel.word
    pointwise
    simp only [zero_sub]
    rfl
  · show (HeadModel.step t0 t1 q).2 (ix2 0 0) = _
    unfold HeadModel.step HeadModel.dq
    pointwise
    rw [Fin.sum_univ_two]
    unfold HeadModel.invJ HeadModel.err HeadModel.inv HeadModel.word
    pointwise
    simp only [zero_sub]
    rfl

theorem angles_entry (t0 t1 : FVec Ideal S1x1 .f32) (q : FVec Ideal S1x1 .f32 × FVec Ideal S1x1 .f32) (n : ℕ) :
    entry (HeadModel.angles t0 t1 q n) = HeadSpec.angles (entry (t0, t1)) (entry q) n := by
  induction n with
  | zero => rfl
  | succ n ih => exact (step_entry t0 t1 _).trans (congrArg _ ih)

theorem ninth : (Named.named (F := Ideal) (φ := .f32) κ "ninth" 0x3DE38E39#32 : EReal) = ((1 / 9 : ℝ) : EReal) := rfl

theorem sitofp_nat (i : Fin 19) : (FloatOps.sitofp .f32 (BitVec.ofNat 32 i.val) : Ideal .f32) = (((i.val : ℕ) : ℝ) : EReal) := by
  show (((BitVec.ofNat 32 i.val).toInt : ℝ) : EReal) = _
  have h : ∀ i : Fin 19, (BitVec.ofNat 32 i.val).toInt = i.val := by decide
  rw [h i]; norm_cast

/-- A waypoint, of the arm's end. -/
theorem waypoints_apply (q : FVec Ideal S1x1 .f32 × FVec Ideal S1x1 .f32) (i : Fin 19) (j : Fin 2) :
    HeadModel.waypoints q (ix2 i j) = HeadSpec.way (Ideal.cos (entry q).1 + Ideal.cos ((entry q).1 + (entry q).2))
      (Ideal.sin (entry q).1 + Ideal.sin ((entry q).1 + (entry q).2)) i j := by
  unfold HeadModel.waypoints HeadSpec.way
  pointwise
  rw [ninth, HeadSpec.word_nine, HeadSpec.word_back, HeadSpec.word_down, sitofp_nat, HeadSpec.min_nine, HeadSpec.max_nine]
  fin_cases j
  · refine Eq.trans (?_ : _ = _) (if_pos rfl).symm
    rw [neg_mul, EReal.coe_neg, ← sub_eq_add_neg, EReal.coe_mul]
    rfl
  · refine Eq.trans (?_ : _ = _) (if_neg (by decide)).symm
    rw [neg_mul, EReal.coe_neg, ← sub_eq_add_neg, EReal.coe_mul]
    rfl

theorem pick2_apply (a : Memref sig .tc .smem S2 .f32) (h : a.IsWhole) (x : Vec Ideal S2 .f32) (i : Fin 2) :
    HeadModel.pick2 a h x i = x (ix1 i) := by
  unfold HeadModel.pick2
  rw [View.readAt_eq_ld, h.read_unread]
  exact View.ld_unit_apply_of _ _ _ _ _ _ (by intro a; fin_cases a; rfl)

theorem pick3_apply (a : Memref sig .tc .smem S3 .f32) (h : a.IsWhole) (x : Vec Ideal S3 .f32) (i : Fin 3) :
    HeadModel.pick3 a h x i = x (ix1 i) := by
  unfold HeadModel.pick3
  rw [View.readAt_eq_ld, h.read_unread]
  exact View.ld_unit_apply_of _ _ _ _ _ _ (by intro a; fin_cases a; rfl)

/-- A coordinate of the target: a row of weights times the features, plus the bias. -/
theorem goal_apply (a0 : Memref sig .tc .vmem S2x256 .f32) (h0 : a0.IsWhole) (a1 : Memref sig .tc .vmem S256x1 .f32) (h1 : a1.IsWhole)
    (a2 : Memref sig .tc .smem S2 .f32) (h2 : a2.IsWhole) (x0 : Vec Ideal S2x256 .f32) (x1 : Vec Ideal S256x1 .f32)
    (x2 : Vec Ideal S2 .f32) (r : Fin 2) : HeadModel.goal a0 h0 a1 h1 a2 h2 x0 x1 x2 r (ix2 0 0) =
      ∑ k : Fin 256, x0 (ix2 r k) * x1 (ix2 k 0) + x2 (ix1 r) := by
  unfold HeadModel.goal HeadModel.target
  rw [View.readAt_eq_ld, h0.read_unread, View.readAt_eq_ld, h1.read_unread]
  pointwise
  rw [pick2_apply]

theorem poseX_apply (p0 p2 dl dr : Ideal .f32) : HeadModel.poseX p0 p2 dl dr =
    p0 + (dl * Ideal.ofBits .f32 0x38D1B717#32 + dr * Ideal.ofBits .f32 0x38D1B717#32) * ((1 / 2 : ℝ) : EReal) *
      Ideal.cos (p2 + (dr * Ideal.ofBits .f32 0x38D1B717#32 - dl * Ideal.ofBits .f32 0x38D1B717#32) * ((2 : ℝ) : EReal) * ((1 / 2 : ℝ) : EReal)) := by
  unfold HeadModel.poseX HeadModel.middle HeadModel.heading HeadModel.turn HeadModel.way
  pointwise
  rw [HeadSpec.word_half, HeadSpec.word_two]

theorem poseY_apply (p1 p2 dl dr : Ideal .f32) : HeadModel.poseY p1 p2 dl dr =
    p1 + (dl * Ideal.ofBits .f32 0x38D1B717#32 + dr * Ideal.ofBits .f32 0x38D1B717#32) * ((1 / 2 : ℝ) : EReal) *
      Ideal.sin (p2 + (dr * Ideal.ofBits .f32 0x38D1B717#32 - dl * Ideal.ofBits .f32 0x38D1B717#32) * ((2 : ℝ) : EReal) * ((1 / 2 : ℝ) : EReal)) := by
  unfold HeadModel.poseY HeadModel.middle HeadModel.heading HeadModel.turn HeadModel.way
  pointwise
  rw [HeadSpec.word_half, HeadSpec.word_two]

theorem turn_apply (dl dr : Ideal .f32) : HeadModel.turn dl dr =
    (dr * Ideal.ofBits .f32 0x38D1B717#32 - dl * Ideal.ofBits .f32 0x38D1B717#32) * ((2 : ℝ) : EReal) := by
  unfold HeadModel.turn HeadModel.way
  pointwise
  rw [HeadSpec.word_two]

end Cert.Proof.HeadValue
end
-- ==== Proof.Spec.lean ====
/-
  What both programs compute, of the arguments' entries over the extended reals: the target read from the image, the
  joint angles after the nine steps of inverse kinematics, the waypoints, and the new pose.
-/
module

public import proofs.«01_k».proof.Proof.ConvSpec
public import proofs.«01_k».proof.Proof.HeadSpec

@[expose] public section

noncomputable section

namespace Cert.Proof.Spec

open Idealize.ShloMosaic

/-- Coordinate `r` of the target: the pooled features, channel by channel and row by row, through the linear layer. -/
def goal (X : Fin 3 → Fin 64 → Fin 64 → EReal) (W : Fin 4 → Fin 3 → Fin 4 → Fin 4 → EReal) (B : Fin 4 → EReal)
    (L : Fin 2 → Fin 256 → EReal) (b : Fin 2 → EReal) (r : Fin 2) : EReal :=
  ∑ k : Fin 256, ConvSpec.poolAt X W B ⟨k / 64, by omega⟩ (k / 8 % 8) (k % 8) * L r k + b r

/-- Coordinate `j` of waypoint `i`, of the final angles `q`. -/
def waypoint (q : EReal × EReal) (i : Fin 19) (j : Fin 2) : EReal :=
  HeadSpec.way (Ideal.cos q.1 + Ideal.cos (q.1 + q.2)) (Ideal.sin q.1 + Ideal.sin (q.1 + q.2)) i j

/-- The distance one wheel travels in `d` ticks. -/
def wheel (d : EReal) : EReal := d * Ideal.ofBits .f32 0x38D1B717#32

/-- The change of heading. -/
def turn (d : Fin 2 → EReal) : EReal := (wheel (d 1) - wheel (d 0)) * ((2 : ℝ) : EReal)

/-- The distance the centre travels. -/
def travel (d : Fin 2 → EReal) : EReal := (wheel (d 0) + wheel (d 1)) * ((1 / 2 : ℝ) : EReal)

/-- The heading half way through the turn. -/
def middle (p : Fin 3 → EReal) (d : Fin 2 → EReal) : EReal := p 2 + turn d * ((1 / 2 : ℝ) : EReal)

/-- The pose after the wheels have moved. -/
def pose (p : Fin 3 → EReal) (d : Fin 2 → EReal) : Fin 3 → EReal :=
  ![p 0 + travel d * Ideal.cos (middle p d), p 1 + travel d * Ideal.sin (middle p d), p 2 + turn d]

end Cert.Proof.Spec

end
-- ==== Proof.KernelValue.lean ====
/-
  What the kernel's arrays hold after its run, over the extended reals: the pooled features after the first region,
  the waypoints and the new pose after the second.
-/
module

public import proofs.«01_k».proof.Proof.KernelRun
public import proofs.«01_k».proof.Proof.ConvValue
public import proofs.«01_k».proof.Proof.HeadValue
public import proofs.«01_k».proof.Proof.Spec
public import Idealize.ShloMosaic.Lib.Pipeline.ValueKit

@[expose] public section

set_option maxRecDepth 16384

noncomputable section

namespace Cert.Proof.KernelValue

open Idealize.ShloMosaic Idealize.ShloMosaic.TcCoe Cert.KernelIdeal Cert.KernelIdeal.Gen

variable (m : (ℓ : Loc nD τ sig) → Buf (Elt Ideal) ℓ) (ρ : Dev nD → PrngReg) (c : Dev nD)

/-! ## Each window's one block is its whole array -/

section
variable (V : (c : Dev nD) → (b : Ref sig .tc) → Buf (Elt Ideal) ((c : Thread nD τ).loc b))

theorem block0_0 : iblk0 V c 0 t0_0 = V c main_v0 :=
  Memref.read_access_unit_zero (Elt Ideal) main_v0
    (show (fun a => (win0_0.index t0_0) a * main_v0.ty.shape.size a) = fun _ => 0 from
      funext fun a => by fin_cases a <;> rfl) (fun a => by fin_cases a <;> decide) _

theorem block0_1 : iblk0 V c 1 t0_0 = V c main_arg4 :=
  Memref.read_access_unit_zero (Elt Ideal) main_arg4
    (show (fun a => (win0_1.index t0_0) a * main_arg4.ty.shape.size a) = fun _ => 0 from
      funext fun a => by fin_cases a <;> rfl) (fun a => by fin_cases a <;> decide) _

theorem block0_2 : iblk0 V c 2 t0_0 = V c main_arg5 :=
  Memref.read_access_unit_zero (Elt Ideal) main_arg5
    (show (fun a => (win0_2.index t0_0) a * main_arg5.ty.shape.size a) = fun _ => 0 from
      funext fun a => by fin_cases a <;> rfl) (fun a => by fin_cases a <;> decide) _

theorem block1_0 : iblk1 V c 0 t1_0 = V c main_arg6 :=
  Memref.read_access_unit_zero (Elt Ideal) main_arg6
    (show (fun a => (win1_0.index t1_0) a * main_arg6.ty.shape.size a) = fun _ => 0 from
      funext fun a => by fin_cases a <;> rfl) (fun a => by fin_cases a <;> decide) _

theorem block1_1 : iblk1 V c 1 t1_0 = V c main_v2 :=
  Memref.read_access_unit_zero (Elt Ideal) main_v2
    (show (fun a => (win1_1.index t1_0) a * main_v2.ty.shape.size a) = fun _ => 0 from
      funext fun a => by fin_cases a <;> rfl) (fun a => by fin_cases a <;> decide) _

theorem block1_2 : iblk1 V c 2 t1_0 = V c main_arg7 :=
  Memref.read_access_unit_zero (Elt Ideal) main_arg7
    (show (fun a => (win1_2.index t1_0) a * main_arg7.ty.shape.size a) = fun _ => 0 from
      funext fun a => by fin_cases a <;> rfl) (fun a => by fin_cases a <;> decide) _

theorem block1_3 : iblk1 V c 3 t1_0 = V c main_arg1 :=
  Memref.read_access_unit_zero (Elt Ideal) main_arg1
    (show (fun a => (win1_3.index t1_0) a * main_arg1.ty.shape.size a) = fun _ => 0 from
      funext fun a => by fin_cases a <;> rfl) (fun a => by fin_cases a <;> decide) _

theorem block1_4 : iblk1 V c 4 t1_0 = V c main_arg2 :=
  Memref.read_access_unit_zero (Elt Ideal) main_arg2
    (show (fun a => (win1_4.index t1_0) a * main_arg2.ty.shape.size a) = fun _ => 0 from
      funext fun a => by fin_cases a <;> rfl) (fun a => by fin_cases a <;> decide) _

theorem block1_5 : iblk1 V c 5 t1_0 = V c main_arg3 :=
  Memref.read_access_unit_zero (Elt Ideal) main_arg3
    (show (fun a => (win1_5.index t1_0) a * main_arg3.ty.shape.size a) = fun _ => 0 from
      funext fun a => by fin_cases a <;> rfl) (fun a => by fin_cases a <;> decide) _

end

/-! ## The first region -/

/-- The pooled features as a 32 × 8 array: row `r` is row `r % 8` of channel `r / 8`. -/
def features (x0 : Vec Ideal S192x64 .f32) (x1 : Vec Ideal S4x3x4x4 .f32) (x2 : Vec Ideal S4 .f32) : Vec Ideal S32x8 .f32 := fun i =>
  ConvSpec.poolAt (ConvValue.image x0) (ConvValue.filters x1) (ConvValue.biases x2)
    ⟨(i 0).val / 8, by have : (i 0).val < 32 := (i 0).isLt; omega⟩ ((i 0).val % 8) (i 1).val

section
variable (a0 : Memref sig .tc .vmem S192x64 .f32) (h0 : a0.IsWhole) (a1 : Memref sig .tc .smem S4x3x4x4 .f32) (h1 : a1.IsWhole)
  (x0 : Vec Ideal S192x64 .f32) (x1 : Vec Ideal S4x3x4x4 .f32) (a2 : Memref sig .tc .smem S4 .f32) (h2 : a2.IsWhole)
  (x2 : Vec Ideal S4 .f32)

/-- Entry `x` of the tile of channel `co` is the entry of the whole array the tile puts there. -/
theorem feature_tile (j : S32x8.Idx) (x : S8x8.Idx) (co : Fin 4) (e0 : (j 0).val = 8 * co.val + (x 0).val)
    (e1 : (j 1).val = (x 1).val) : ConvModel.pooled (F := Ideal) a0 h0 a1 h1 x0 x1 a2 h2 x2 co x = features x0 x1 x2 j := by
  obtain ⟨p, q, rfl⟩ : ∃ p q, x = ix2 p q := ⟨x 0, x 1, eq_ix2 x⟩
  change (j 0).val = 8 * co.val + p.val at e0
  rw [ConvValue.pooled_apply]
  unfold features
  congr 1
  · exact Fin.ext (show co.val = (j 0).val / 8 by omega)
  · show p.val = (j 0).val % 8; omega
  · exact e1.symm
end

/-- What the first region's array holds at its exit. -/
theorem region0 : (dat0 (V1 m ρ) c).arrAt 3 cfg0.N = features (V1 m ρ c main_v0) (V1 m ρ c main_arg4) (V1 m ρ c main_arg5) := by
  refine (dat0 (V1 m ρ) c).arrAt_eq_of_after_last 3 t0_0 (by decide +kernel) _ fun j => ?_
  blk_simp
  rw [after0_3]
  unfold outsAt0 out0_A_3
  rw [View.read_writes_junk_eq_canon, ConvModel.pieces, block0_0, block0_1, block0_2]
  canon_tiles x ha
  · exact feature_tile _ _ _ _ _ _ _ _ _ j x 3 ha0 ha1
  · exact feature_tile _ _ _ _ _ _ _ _ _ j x 2 ha0 ha1
  · exact feature_tile _ _ _ _ _ _ _ _ _ j x 1 ha0 ha1
  · exact feature_tile _ _ _ _ _ _ _ _ _ j x 0 (by simpa using ha0) ha1

/-! ## The second region -/

/-- A coordinate of the target, of the region's arrays. -/
def goal (x0 : Vec Ideal S2x256 .f32) (x1 : Vec Ideal S256x1 .f32) (x2 : Vec Ideal S2 .f32) (r : Fin 2) : EReal :=
  ∑ k : Fin 256, x0 (ix2 r k) * x1 (ix2 k 0) + x2 (ix1 r)

/-- The waypoints, of the region's arrays. -/
def waypoints (x0 : Vec Ideal S2x256 .f32) (x1 : Vec Ideal S256x1 .f32) (x2 x4 : Vec Ideal S2 .f32) : Vec Ideal S19x2 .f32 := fun j =>
  Spec.waypoint (HeadSpec.angles (goal x0 x1 x2 0, goal x0 x1 x2 1) (x4 (ix1 0), x4 (ix1 1)) 9) (j 0) (j 1)

/-- The new pose, of the region's arrays. -/
def pose (x3 : Vec Ideal S3 .f32) (x5 : Vec Ideal S2 .f32) : Vec Ideal S3 .f32 := fun j =>
  Spec.pose (fun i => x3 (ix1 i)) (fun i => x5 (ix1 i)) (j 0)

/-- What the second region leaves of the waypoints. -/
theorem region1_way : (dat1 (V3 m ρ) c).arrAt 6 cfg1.N =
    waypoints (V3 m ρ c main_arg6) (V3 m ρ c main_v2) (V3 m ρ c main_arg7) (V3 m ρ c main_arg2) := by
  refine (dat1 (V3 m ρ) c).arrAt_eq_of_after_last 6 t1_0 (by decide +kernel) _ fun j => ?_
  blk_simp
  rw [after1_6]
  unfold outsAt1 out1_A_6
  dsimp only
  rw [View.read_writes_junk_eq_canon, HeadModel.pieces6, block1_0, block1_1, block1_2, block1_4]
  canon_tiles x ha
  obtain rfl : x = j := by
    funext a
    fin_cases a
    · exact Fin.ext (by simpa using ha0.symm)
    · exact Fin.ext (by simpa using ha1.symm)
  rw [eq_ix2 x]
  refine (HeadValue.waypoints_apply _ _ _).trans ?_
  rw [HeadValue.angles_entry]
  unfold HeadValue.entry
  dsimp only
  rw [HeadValue.goal_apply, HeadValue.goal_apply, HeadValue.pick2_apply, HeadValue.pick2_apply]
  rfl

/-- What the second region leaves of the pose. -/
theorem region1_pose : (dat1 (V3 m ρ) c).arrAt 7 cfg1.N = pose (V3 m ρ c main_arg1) (V3 m ρ c main_arg3) := by
  refine (dat1 (V3 m ρ) c).arrAt_eq_of_after_last 7 t1_0 (by decide +kernel) _ fun j => ?_
  blk_simp
  rw [after1_7]
  unfold outsAt1 out1_A_7
  dsimp only
  rw [View.read_writes_junk_eq_canon, HeadModel.pieces7, block1_3, block1_5]
  simp only [HeadValue.pick2_apply, HeadValue.pick3_apply]
  canon_tiles x ha
  · obtain rfl : j = ix1 2 := by
      funext a; fin_cases a; exact Fin.ext (by show (j 0).val = 2; omega)
    exact congrArg _ (HeadValue.turn_apply _ _)
  · obtain rfl : j = ix1 1 := by
      funext a; fin_cases a; exact Fin.ext (by show (j 0).val = 1; omega)
    exact HeadValue.poseY_apply _ _ _ _
  · obtain rfl : j = ix1 0 := by
      funext a; fin_cases a; exact Fin.ext (by show (j 0).val = 0; omega)
    exact HeadValue.poseX_apply _ _ _ _

/-! ## The arrays between the regions, and the results -/

/-- The image, by coordinates. -/
def image (ci : Fin 3) (i j : Fin 64) : EReal := (m ((c : Thread nD τ).loc main_arg0) : Vec Ideal S1x3x64x64 .f32) (ix4 0 ci i j)

/-- The channels stacked one under the other, read back at a row of a channel. -/
theorem stacked_apply (x : Vec Ideal S1x3x64x64 .f32) (ci : Fin 3) (i j : Fin 64) :
    shapeCast S192x64 x shapeCasts_S1x3x64x64_S192x64 (ix2 ⟨64 * ci + i, by omega⟩ j) = x (ix4 0 ci i j) := by
  pointwise

/-- The stack of the first region is the argument's channels. -/
theorem image_entry (ci : Fin 3) (i j : Fin 64) : ConvValue.image (V1 m ρ c main_v0) ci i j = image m c ci i j :=
  stacked_apply _ ci i j

/-- The column of features, entry by entry. -/
theorem column_entry (k : Fin 256) : (V3 m ρ c main_v2 : Vec Ideal S256x1 .f32) (ix2 k 0) =
    features (V1 m ρ c main_v0) (V1 m ρ c main_arg4) (V1 m ρ c main_arg5) (ix2 ⟨k / 8, by omega⟩ ⟨k % 8, by omega⟩) := by
  show shapeCast S256x1 (W2 m ρ c (Proc.devRef .tc main_v1) : Vec Ideal S32x8 .f32) _ (ix2 k 0) = _
  rw [show W2 m ρ c (Proc.devRef .tc main_v1) = _ from W2_arr m ρ c 3, region0]
  pointwise

/-- The filters, by coordinates. -/
def filters (co : Fin 4) (ci : Fin 3) (dy dx : Fin 4) : EReal :=
  (m ((c : Thread nD τ).loc main_arg4) : Vec Ideal S4x3x4x4 .f32) (ix4 co ci dy dx)

/-- The biases, by coordinates. -/
def biases (co : Fin 4) : EReal := (m ((c : Thread nD τ).loc main_arg5) : Vec Ideal S4 .f32) (ix1 co)

/-- The linear layer's weights, by coordinates. -/
def weights (r : Fin 2) (k : Fin 256) : EReal := (m ((c : Thread nD τ).loc main_arg6) : Vec Ideal S2x256 .f32) (ix2 r k)

/-- The linear layer's biases, by coordinates. -/
def offsets (r : Fin 2) : EReal := (m ((c : Thread nD τ).loc main_arg7) : Vec Ideal S2 .f32) (ix1 r)

/-- The old pose, by coordinates. -/
def start (i : Fin 3) : EReal := (m ((c : Thread nD τ).loc main_arg1) : Vec Ideal S3 .f32) (ix1 i)

/-- The joint angles given. -/
def joints (i : Fin 2) : EReal := (m ((c : Thread nD τ).loc main_arg2) : Vec Ideal S2 .f32) (ix1 i)

/-- The wheels' ticks. -/
def ticks (i : Fin 2) : EReal := (m ((c : Thread nD τ).loc main_arg3) : Vec Ideal S2 .f32) (ix1 i)

/-- A coordinate of the target, of the arguments. -/
theorem goal_entry (r : Fin 2) : goal (V3 m ρ c main_arg6) (V3 m ρ c main_v2) (V3 m ρ c main_arg7) r =
    Spec.goal (image m c) (filters m c) (biases m c) (weights m c) (offsets m c) r := by
  unfold goal Spec.goal
  refine congrArg₂ _ (Finset.sum_congr rfl fun k _ => ?_) (congrFun (W3_args m ρ c main_arg7 (by decide)) _)
  rw [column_entry, mul_comm]
  refine congrArg₂ _ ?_ (congrFun (W3_args m ρ c main_arg6 (by decide)) _)
  unfold features
  rw [show ConvValue.image (V1 m ρ c main_v0) = image m c from funext fun ci => funext fun i => funext fun j => image_entry m ρ c ci i j,
    show V1 m ρ c main_arg4 = _ from W1_args m ρ c main_arg4 (by decide),
    show V1 m ρ c main_arg5 = _ from W1_args m ρ c main_arg5 (by decide)]
  exact congrArg (fun co => ConvSpec.poolAt _ _ _ co _ _) (Fin.ext (Nat.div_div_eq_div_mul k.val 8 8))

/-- What the kernel leaves of the waypoints, of the arguments. -/
theorem waypoints_entry (i : Fin 19) (j : Fin 2) : (W4 m ρ c (Proc.devRef .tc main_v3_0) : Vec Ideal S19x2 .f32) (ix2 i j) =
    Spec.waypoint (HeadSpec.angles
      (Spec.goal (image m c) (filters m c) (biases m c) (weights m c) (offsets m c) 0,
        Spec.goal (image m c) (filters m c) (biases m c) (weights m c) (offsets m c) 1)
      (joints m c 0, joints m c 1) 9) i j := by
  rw [show W4 m ρ c (Proc.devRef .tc main_v3_0) = _ from W4_arr m ρ c 6, region1_way]
  unfold waypoints
  rw [goal_entry, goal_entry, show V3 m ρ c main_arg2 = _ from W3_args m ρ c main_arg2 (by decide)]
  rfl

/-- What the kernel leaves of the pose, of the arguments. -/
theorem pose_entry (i : Fin 3) : (W4 m ρ c (Proc.devRef .tc main_v3_1) : Vec Ideal S3 .f32) (ix1 i) =
    Spec.pose (start m c) (ticks m c) i := by
  rw [show W4 m ρ c (Proc.devRef .tc main_v3_1) = _ from W4_arr m ρ c 7, region1_pose,
    show V3 m ρ c main_arg1 = _ from W3_args m ρ c main_arg1 (by decide),
    show V3 m ρ c main_arg3 = _ from W3_args m ρ c main_arg3 (by decide)]
  rfl

end Cert.Proof.KernelValue
end
end
-- ==== Proof.RefModel.lean ====
/-
  The reference's arrays before its loop, written once: the padded image, one term of the convolution per position
  of the filter (the reference unrolls sixteen), and the target the pooled channels give.
-/
module

public import proofs.«01_k».proof.Proof.Gen.ReferenceIdeal.Run

@[expose] public section

set_option maxRecDepth 16384

namespace Cert.Proof.RefModel

open Idealize.ShloMosaic Idealize.ShloMosaic.TcCoe Idealize.ShloMosaic.StableHlo Cert.ReferenceIdeal Cert.ReferenceIdeal.Gen Cert.ReferenceIdeal.Value

variable {F : FTy → Type} [FloatOps F]

theorem slX (n : ℕ) : S1x3x66x66.SlicesBy ![0, 0, n / 4 % 4, n % 4] ![1, 1, 4, 4] S1x3x16x16 := by
  have h : ∀ a b : Fin 4, S1x3x66x66.SlicesBy ![0, 0, a.val, b.val] ![1, 1, 4, 4] S1x3x16x16 := by decide
  exact h ⟨n / 4 % 4, Nat.mod_lt _ (by decide)⟩ ⟨n % 4, Nat.mod_lt _ (by decide)⟩

theorem slW (n : ℕ) : S4x3x4x4.Slices ![0, 0, n / 4 % 4, n % 4] S4x3x1x1 := by
  have h : ∀ a b : Fin 4, S4x3x4x4.Slices ![0, 0, a.val, b.val] S4x3x1x1 := by decide
  exact h ⟨n / 4 % 4, Nat.mod_lt _ (by decide)⟩ ⟨n % 4, Nat.mod_lt _ (by decide)⟩

/-- The term of filter position `n` (row `n / 4`, column `n % 4`): the image shifted there and thinned by the stride,
    contracted over the channels with the filters' entries there. -/
noncomputable def term (x : FVec F S1x3x66x66 .f32) (w : FVec F S4x3x4x4 .f32) (n : ℕ) : FVec F S1x4x16x16 .f32 :=
  transpose S1x4x16x16 [0, 3, 1, 2]
    (Host.dotGeneral dot_S1x3x16x16_S4x3_S1x16x16x4_1_1_023_0_n_n none
      (Host.slice S1x3x16x16 ![0, 0, n / 4 % 4, n % 4] ![1, 1, 4, 4] x (slX n))
      (shapeCast S4x3 (extractStridedSlice S4x3x1x1 ![0, 0, n / 4 % 4, n % 4] w (slW n)) shapeCasts_S4x3x1x1_S4x3))
    transposes_S1x16x16x4_S1x4x16x16_0_3_1_2

/-- The first `n` terms, added to zero from the left. -/
noncomputable def terms (x : FVec F S1x3x66x66 .f32) (w : FVec F S4x3x4x4 .f32) : ℕ → FVec F S1x4x16x16 .f32
  | 0 => broadcastInDim S1x4x16x16 ![] bcast_S_S1x4x16x16 (constant S_ .f32 0x00000000#32)
  | n + 1 => addf (terms x w n) (term x w n)

/-- The image with a border of zeros. -/
noncomputable def padded (x : FVec F S1x3x64x64 .f32) : FVec F S1x3x66x66 .f32 :=
  pad S1x3x66x66 ![0, 0, 1, 1] ![0, 0, 1, 1] ![0, 0, 0, 0] x (sitofp .f32 (constantI S_ 32 0#32))
    pads_S1x3x64x64_S1x3x66x66_000_000_110_110 h_S_

/-- The convolution with its bias, under the relu. -/
noncomputable def layer (x : FVec F S1x3x66x66 .f32) (w : FVec F S4x3x4x4 .f32) (b : FVec F S4 .f32) :
    FVec F S1x4x16x16 .f32 :=
  maximumf (addf (terms x w 16) (broadcastInDim S1x4x16x16 ![0, 1, 2, 3] bcast_S1x4x1x1_S1x4x16x16_0_1_2_3
      (broadcastInDim S1x4x1x1 ![1] bcast_S4_S1x4x1x1_1 b)))
    (broadcastInDim S1x4x16x16 ![] bcast_S_S1x4x16x16 (constant S_ .f32 0x00000000#32))

/-- The pooled channels. -/
noncomputable def pooled (y : FVec F S1x4x16x16 .f32) : FVec F S1x4x8x8 .f32 :=
  Host.reduce FloatOps.maximumf (shapeCast S1x4x8x2x8x2 y shapeCasts_S1x4x16x16_S1x4x8x2x8x2)
    (constant S_ .f32 0xFF800000#32) reducesTo_S1x4x8x2x8x2_S1x4x8x8_d3_5 h_S_

/-- The target the linear layer gives. -/
noncomputable def target (y : FVec F S1x4x8x8 .f32) (w : FVec F S2x256 .f32) (b : FVec F S2 .f32) : FVec F S2 .f32 :=
  shapeCast S2 (addf (Host.dotGeneral dot_S1x256_S256x2_S1x2_1_0_0_1_n_n none
      (shapeCast S1x256 y shapeCasts_S1x4x8x8_S1x256) (transpose S256x2 [1, 0] w transposes_S2x256_S256x2_1_0))
    (broadcastInDim S1x2 ![1] bcast_S2_S1x2_1 b)) shapeCasts_S1x2_S2

theorem after_pad (V : Valuation τ sig (Elt F)) :
    after hostOps0_1 (after hostOps0 V) (Proc.devRef .tc main_v0) = padded (V (Proc.devRef .tc main_arg0)) := rfl

theorem after_conv (V : Valuation τ sig (Elt F)) : after hostOps0_3 (after hostOps0_2 V) (Proc.devRef .tc main_v101) =
    layer (V (Proc.devRef .tc main_v0)) (V (Proc.devRef .tc main_arg4)) (V (Proc.devRef .tc main_arg5)) := rfl

theorem after_head (V : Valuation τ sig (Elt F)) : after hostOps0_4 V (Proc.devRef .tc main_v110_0) =
    target (pooled (V (Proc.devRef .tc main_v101))) (V (Proc.devRef .tc main_arg6)) (V (Proc.devRef .tc main_arg7)) := rfl

variable (m : (ℓ : Loc nD τ sig) → Buf (Elt F) ℓ) (c : Dev nD)

/-- The target at the loop's entry, of the arguments. -/
theorem entry_target : entryContents preI m c (Proc.devRef .tc main_v110_0) =
    target (pooled (layer (padded (m ((c.tc : Thread nD τ).loc main_arg0))) (m ((c.tc : Thread nD τ).loc main_arg4))
      (m ((c.tc : Thread nD τ).loc main_arg5)))) (m ((c.tc : Thread nD τ).loc main_arg6)) (m ((c.tc : Thread nD τ).loc main_arg7)) := by
  simp only [entryContents, afterL_cons, afterL_nil]
  rw [after_head, after_conv, after_pad]
  rw [keep_main_arg4_hostOps0_1, keep_main_arg4_hostOps0, keep_main_arg5_hostOps0_1, keep_main_arg5_hostOps0,
    keep_main_arg6_hostOps0_3, keep_main_arg6_hostOps0_2, keep_main_arg6_hostOps0_1, keep_main_arg6_hostOps0,
    keep_main_arg7_hostOps0_3, keep_main_arg7_hostOps0_2, keep_main_arg7_hostOps0_1, keep_main_arg7_hostOps0]

/-- The angles at the loop's entry. -/
theorem entry_angles : entryContents preI m c (Proc.devRef .tc main_v110_2) = m ((c.tc : Thread nD τ).loc main_arg2) := by
  simp only [entryContents, afterL_cons, afterL_nil]
  rw [show ∀ V : Valuation τ sig (Elt F), after hostOps0_4 V (Proc.devRef .tc main_v110_2) = V (Proc.devRef .tc main_arg2) from fun _ => rfl,
    keep_main_arg2_hostOps0_3, keep_main_arg2_hostOps0_2, keep_main_arg2_hostOps0_1, keep_main_arg2_hostOps0]

end Cert.Proof.RefModel
end
-- ==== Proof.RefConv.lean ====
/-
  The reference's convolution, relu and max pool at an index, over the extended reals.
-/
module

public import proofs.«01_k».proof.Proof.RefModel
public import proofs.«01_k».proof.Proof.ConvSpec
public import Idealize.ShloMosaic.Lib.Pointwise

@[expose] public section

set_option maxRecDepth 16384

namespace Cert.Proof.RefConv

open Idealize.ShloMosaic Cert.ReferenceIdeal Cert.ReferenceIdeal.Gen Cert.Proof.RefModel Cert.Proof.ConvSpec

/-- The image by coordinates. -/
def image (x : FVec Ideal S1x3x64x64 .f32) (ci : Fin 3) (i j : Fin 64) : EReal := x (ix4 0 ci i j)

/-- The filters by coordinates. -/
def filters (w : FVec Ideal S4x3x4x4 .f32) (co : Fin 4) (ci : Fin 3) (dy dx : Fin 4) : EReal := w (ix4 co ci dy dx)

/-- The biases by coordinates. -/
def biases (b : FVec Ideal S4 .f32) (co : Fin 4) : EReal := b (ix1 co)

abbrev posY (n : ℕ) : Fin 4 := ⟨n / 4 % 4, Nat.mod_lt _ (by decide)⟩
abbrev posX (n : ℕ) : Fin 4 := ⟨n % 4, Nat.mod_lt _ (by decide)⟩

variable (x : FVec Ideal S1x3x64x64 .f32) (w : FVec Ideal S4x3x4x4 .f32) (b : FVec Ideal S4 .f32)

theorem padded_apply (ci : Fin 3) (i j : Fin 66) : padded x (ix4 0 ci i j) = pix (image x) ci i j := by
  unfold padded pix pixRow
  pointwise
  rw [show (FloatOps.sitofp .f32 (0#32 : BitVec 32) : Ideal .f32) = (0 : EReal) from by
    show (((0#32 : BitVec 32).toInt : ℝ) : EReal) = 0
    norm_num]
  by_cases hi : 1 ≤ i.val ∧ i.val - 1 < 64
  · by_cases hj : 1 ≤ j.val ∧ j.val - 1 < 64
    · rw [dif_pos ⟨hi, hj⟩, dif_pos hj, dif_pos hi]; rfl
    · rw [dif_neg (fun h => hj h.2), dif_neg hj]
  · rw [dif_neg (fun h => hi h.1)]
    split <;> rfl

/-- One term: the products at one position of the filter, summed over the channels. -/
theorem term_apply (X : FVec Ideal S1x3x66x66 .f32) (n : ℕ) (co : Fin 4) (i j : Fin 16) : term X w n (ix4 0 co i j) =
    ∑ ci : Fin 3, X (ix4 0 ci ⟨4 * i + posY n, by omega⟩ ⟨4 * j + posX n, by omega⟩) * filters w co ci (posY n) (posX n) := by
  unfold term
  pointwise
  simp only [add_comm]
  rfl

/-- The terms added up are the convolution. -/
theorem terms_apply (co : Fin 4) (i j : Fin 16) :
    terms (padded x) w 16 (ix4 0 co i j) = conv (image x) (filters w) co i j := by
  have h : ∀ n, terms (padded x) w n (ix4 0 co i j) = ∑ k ∈ Finset.range n, term (padded x) w k (ix4 0 co i j) := by
    intro n
    induction n with
    | zero => unfold terms; pointwise; simp
    | succ n ih => rw [Finset.sum_range_succ, ← ih]; rfl
  rw [h]
  simp only [term_apply, padded_apply]
  exact sum_positions fun ci dy dx => pix (image x) ci (4 * i + dy) (4 * j + dx) * filters w co ci dy dx

theorem layer_apply (co : Fin 4) (i j : Fin 16) :
    layer (padded x) w b (ix4 0 co i j) = act (image x) (filters w) (biases b) co i j := by
  unfold layer act
  rw [← terms_apply]
  pointwise
  rfl

theorem drop_eq (i : S1x4x8x2x8x2.Idx) (co : Fin 4) (p q : Fin 8) :
    reducesTo_S1x4x8x2x8x2_S1x4x8x8_d3_5.drop i = ix4 0 co p q ↔
      (i 1).val = co.val ∧ (i 2).val = p.val ∧ (i 4).val = q.val := by
  have e1 := reducesTo_S1x4x8x2x8x2_S1x4x8x8_d3_5.drop_apply_val_of_eq i 1 1
  have e2 := reducesTo_S1x4x8x2x8x2_S1x4x8x8_d3_5.drop_apply_val_of_eq i 2 2
  have e3 := reducesTo_S1x4x8x2x8x2_S1x4x8x8_d3_5.drop_apply_val_of_eq i 3 4
  constructor
  · intro h
    rw [h] at e1 e2 e3
    exact ⟨e1.symm, e2.symm, e3.symm⟩
  · rintro ⟨h1, h2, h3⟩
    funext a
    refine Fin.ext ?_
    fin_cases a
    · exact Nat.lt_one_iff.mp (reducesTo_S1x4x8x2x8x2_S1x4x8x8_d3_5.drop i 0).isLt
    · exact e1.trans h1
    · exact e2.trans h2
    · exact e3.trans h3

/-- The reduction over a pool window is the largest of its four values. -/
theorem pooled_apply (Y : FVec Ideal S1x4x16x16 .f32) (co : Fin 4) (p q : Fin 8) : pooled Y (ix4 0 co p q) =
    max (max (Y (ix4 0 co ⟨2 * p, by omega⟩ ⟨2 * q, by omega⟩)) (Y (ix4 0 co ⟨2 * p, by omega⟩ ⟨2 * q + 1, by omega⟩)))
      (max (Y (ix4 0 co ⟨2 * p + 1, by omega⟩ ⟨2 * q, by omega⟩)) (Y (ix4 0 co ⟨2 * p + 1, by omega⟩ ⟨2 * q + 1, by omega⟩))) := by
  unfold pooled
  pointwise
  have mem : ∀ d e : Fin 2, (ix6 0 co p d q e : S1x4x8x2x8x2.Idx) ∈
      (Finset.univ.filter fun i => reducesTo_S1x4x8x2x8x2_S1x4x8x8_d3_5.drop i = ix4 0 co p q) := by
    intro d e
    rw [Finset.mem_filter, drop_eq]
    exact ⟨Finset.mem_univ _, rfl, rfl, rfl⟩
  have at_ : ∀ (d e : Fin 2) (r s : Fin 16), r.val = 2 * p.val + d.val → s.val = 2 * q.val + e.val → ∀ t t',
      Y (ix4 0 co r s) = Y (ix4 0 co ⟨p.val * 2 + d.val, t⟩ ⟨q.val * 2 + e.val, t'⟩) := by
    intro d e r s hr hs t t'
    rw [show r = ⟨p.val * 2 + d.val, t⟩ from Fin.ext (by show r.val = p.val * 2 + d.val; omega),
      show s = ⟨q.val * 2 + e.val, t'⟩ from Fin.ext (by show s.val = q.val * 2 + e.val; omega)]
  apply le_antisymm
  · rw [Finset.fold_max_le]
    refine ⟨?_, fun i hi => ?_⟩
    · rw [show (Ideal.ofBits .f32 0xFF800000#32 : EReal) = ⊥ from by simp [Ideal.ofBits, Ideal.ieee]]
      exact bot_le
    · rw [Finset.mem_filter, drop_eq] at hi
      obtain ⟨-, h1, h2, h3⟩ := hi
      have at_ : ∀ r s : Fin 16, r.val = p.val * 2 + (i 3).val → s.val = q.val * 2 + (i 5).val → ∀ t t',
          Y (ix4 0 (i 1) ⟨(i 2).val * 2 + (i 3).val, t⟩ ⟨(i 4).val * 2 + (i 5).val, t'⟩) = Y (ix4 0 co r s) := by
        intro r s hr hs t t'
        refine congrArg Y (funext fun a => Fin.ext ?_)
        fin_cases a
        · rfl
        · exact h1
        · show (i 2).val * 2 + (i 3).val = r.val
          omega
        · show (i 4).val * 2 + (i 5).val = s.val
          omega
      have d : (i 3).val < 2 := (i 3).isLt
      have e : (i 5).val < 2 := (i 5).isLt
      rcases (show (i 3).val = 0 ∨ (i 3).val = 1 by omega) with hd | hd <;>
        rcases (show (i 5).val = 0 ∨ (i 5).val = 1 by omega) with he | he
      · rw [at_ ⟨2 * p, by omega⟩ ⟨2 * q, by omega⟩ (by show 2 * p.val = _; omega) (by show 2 * q.val = _; omega)]
        exact le_max_of_le_left (le_max_left _ _)
      · rw [at_ ⟨2 * p, by omega⟩ ⟨2 * q + 1, by omega⟩ (by show 2 * p.val = _; omega) (by show 2 * q.val + 1 = _; omega)]
        exact le_max_of_le_left (le_max_right _ _)
      · rw [at_ ⟨2 * p + 1, by omega⟩ ⟨2 * q, by omega⟩ (by show 2 * p.val + 1 = _; omega) (by show 2 * q.val = _; omega)]
        exact le_max_of_le_right (le_max_left _ _)
      · rw [at_ ⟨2 * p + 1, by omega⟩ ⟨2 * q + 1, by omega⟩ (by show 2 * p.val + 1 = _; omega) (by show 2 * q.val + 1 = _; omega)]
        exact le_max_of_le_right (le_max_right _ _)
  · refine max_le (max_le ?_ ?_) (max_le ?_ ?_) <;> rw [Finset.le_fold_max] <;> right
    · exact ⟨_, mem 0 0, le_of_eq (at_ 0 0 _ _ (by simp) (by simp) _ _)⟩
    · exact ⟨_, mem 0 1, le_of_eq (at_ 0 1 _ _ (by simp) (by simp) _ _)⟩
    · exact ⟨_, mem 1 0, le_of_eq (at_ 1 0 _ _ (by simp) (by simp) _ _)⟩
    · exact ⟨_, mem 1 1, le_of_eq (at_ 1 1 _ _ (by simp) (by simp) _ _)⟩

theorem features_apply (co : Fin 4) (p q : Fin 8) : pooled (layer (padded x) w b) (ix4 0 co p q) =
    poolAt (image x) (filters w) (biases b) co p q := by
  rw [pooled_apply]
  simp only [layer_apply]
  rfl

/-- The linear layer: feature `k` is channel `k / 64`, row `k / 8 % 8`, column `k % 8`. -/
theorem target_apply (y : FVec Ideal S1x4x8x8 .f32) (lw : FVec Ideal S2x256 .f32) (lb : FVec Ideal S2 .f32) (r : Fin 2) :
    target y lw lb (ix1 r) = ∑ k : Fin 256, y (ix4 0 ⟨k / 64, by omega⟩ ⟨k / 8 % 8, by omega⟩ ⟨k % 8, by omega⟩) * lw (ix2 r k) + lb (ix1 r) := by
  unfold target
  pointwise

end Cert.Proof.RefConv
end
-- ==== Proof.RefHead.lean ====
/-
  The reference's loop step, waypoints and odometry at an index, over the extended reals.
-/
module

public import proofs.«01_k».proof.Proof.Gen.ReferenceIdeal.Run
public import proofs.«01_k».proof.Proof.HeadSpec
public import Idealize.ShloMosaic.Lib.Pointwise

@[expose] public section

set_option maxRecDepth 16384

namespace Cert.Proof.RefHead

open Idealize.ShloMosaic Idealize.ShloMosaic.StableHlo Cert.ReferenceIdeal Cert.ReferenceIdeal.Gen Cert.ReferenceIdeal.Value

/-- The two entries of an array. -/
noncomputable def entry (q : FVec Ideal S2 .f32) : EReal × EReal := (q (ix1 0), q (ix1 1))

theorem matVec (A : FVec Ideal S2x2 .f32) (v : FVec Ideal S2 .f32) (r : Fin 2) :
    Host.dotGeneral dot_S2x2_S2_S2_1_0_0_n_n_n none A v (ix1 r) = ∑ k : Fin 2, A (ix2 r k) * v (ix1 k) := by
  pointwise

theorem moved (a w : FVec Ideal S2 .f32) (A : FVec Ideal S2x2 .f32) (v : FVec Ideal S2 .f32) (r : Fin 2) :
    addf a (mulf w (Host.dotGeneral dot_S2x2_S2_S2_1_0_0_n_n_n none A v)) (ix1 r) =
      a (ix1 r) + w (ix1 r) * (A (ix2 r 0) * v (ix1 0) + A (ix2 r 1) * v (ix1 1)) := by
  rw [← Fin.sum_univ_two (f := fun k => A (ix2 r k) * v (ix1 k)), ← matVec]
  rfl

/-- One trip of the reference's loop, entry by entry. -/
theorem step_entry (V : Valuation τ sig (Elt Ideal)) : entry (step_main_v110_2 V) =
    HeadSpec.step (entry (V (Proc.devRef .tc main_v110_0))) (entry (V (Proc.devRef .tc main_v110_2))) := by
  refine Prod.ext ?_ ?_
  · show step_main_v110_2 V (ix1 0) = _
    unfold step_main_v110_2
    refine (moved _ _ _ _ 0).trans ?_
    pointwise [res_main_while0b_v196, res_main_while0b_v198, res_main_while0b_v199, res_main_while0b_v200,
      res_main_while0b_v202, res_main_while0b_v204, res_main_while0b_v217, res_main_while0b_v218, res_main_while0b_v221,
      res_main_while0b_v222]
    simp only [HeadSpec.word_negOne, HeadSpec.negOne_mul]
    rfl
  · show step_main_v110_2 V (ix1 1) = _
    unfold step_main_v110_2
    refine (moved _ _ _ _ 1).trans ?_
    pointwise [res_main_while0b_v196, res_main_while0b_v198, res_main_while0b_v199, res_main_while0b_v200,
      res_main_while0b_v202, res_main_while0b_v204, res_main_while0b_v217, res_main_while0b_v218, res_main_while0b_v221,
      res_main_while0b_v222]
    simp only [HeadSpec.word_negOne, HeadSpec.negOne_mul]
    rfl

theorem sitofp_nat (n : ℕ) (hn : n < 19) : (FloatOps.sitofp .f32 (BitVec.ofNat 32 n) : Ideal .f32) = ((n : ℝ) : EReal) := by
  show (((BitVec.ofNat 32 n).toInt : ℝ) : EReal) = _
  have h : ∀ i : Fin 19, (BitVec.ofNat 32 i.val).toInt = i.val := by decide
  rw [h ⟨n, hn⟩]; norm_cast

theorem word0 : (id (constant (F := Ideal) S_ .f32 0x00000000#32) ix0 : EReal) = 0 := by
  show constant (F := Ideal) S_ .f32 0x00000000#32 ix0 = 0
  pointwise

theorem word1 : (id (constant (F := Ideal) S_ .f32 0x3F800000#32) ix0 : EReal) = 1 := by
  show constant (F := Ideal) S_ .f32 0x3F800000#32 ix0 = 1
  pointwise

/-- A waypoint, of the arm's end. -/
theorem waypoints_apply (V : Valuation τ sig (Elt Ideal)) (a : FVec Ideal S2 .f32)
    (ha : V (Proc.devRef .tc main_v110_2) = a) (i : Fin 19) (j : Fin 2) : out_main_v163 V (ix2 i j) =
      HeadSpec.way (Ideal.cos (entry a).1 + Ideal.cos ((entry a).1 + (entry a).2))
        (Ideal.sin (entry a).1 + Ideal.sin ((entry a).1 + (entry a).2)) i j := by
  have hx := HeadSpec.add_ne_top' (HeadSpec.cos_ne_top (a (ix1 0))) (HeadSpec.cos_ne_top (a (ix1 0) + a (ix1 1)))
  have hy := HeadSpec.add_ne_top' (HeadSpec.sin_ne_top (a (ix1 0))) (HeadSpec.sin_ne_top (a (ix1 0) + a (ix1 1)))
  unfold out_main_v163
  rw [ha]
  pointwise
  simp only [word0, word1, HeadSpec.word_nine, HeadSpec.word_negBack, HeadSpec.word_negDown, entry]
  generalize Ideal.cos (a (ix1 0)) + Ideal.cos (a (ix1 0) + a (ix1 1)) = x at hx ⊢
  generalize Ideal.sin (a (ix1 0)) + Ideal.sin (a (ix1 0) + a (ix1 1)) = y at hy ⊢
  by_cases hi : i.val < 10
  · rw [dif_pos hi, sitofp_nat _ i.isLt]
    simp only [dite_eq_ite]
    rw [HeadSpec.share i (by omega)]
    exact HeadSpec.first_stretch hx hy i j hi
  · rw [dif_neg hi, sitofp_nat _ (by omega)]
    simp only [dite_eq_ite]
    rw [HeadSpec.share _ (by omega)]
    exact HeadSpec.second_stretch hx hy i j hi i.isLt

section Pose

variable (V : Valuation τ sig (Elt Ideal)) (p : FVec Ideal S3 .f32) (d : FVec Ideal S2 .f32)
    (hp : V (Proc.devRef .tc main_arg1) = p) (hd : V (Proc.devRef .tc main_arg3) = d)

include hp hd

theorem poseX_apply : out_main_v194 V (ix1 0) =
    p (ix1 0) + (d (ix1 0) * Ideal.ofBits .f32 0x38D1B717#32 + d (ix1 1) * Ideal.ofBits .f32 0x38D1B717#32) * ((1 / 2 : ℝ) : EReal) *
      Ideal.cos (p (ix1 2) + (d (ix1 1) * Ideal.ofBits .f32 0x38D1B717#32 - d (ix1 0) * Ideal.ofBits .f32 0x38D1B717#32) *
        ((2 : ℝ) : EReal) * ((1 / 2 : ℝ) : EReal)) := by
  subst hp hd
  unfold out_main_v194
  pointwise
  simp only [HeadSpec.word_half, HeadSpec.word_two, HeadSpec.half_turn, HeadSpec.halve]

theorem poseY_apply : out_main_v194 V (ix1 1) =
    p (ix1 1) + (d (ix1 0) * Ideal.ofBits .f32 0x38D1B717#32 + d (ix1 1) * Ideal.ofBits .f32 0x38D1B717#32) * ((1 / 2 : ℝ) : EReal) *
      Ideal.sin (p (ix1 2) + (d (ix1 1) * Ideal.ofBits .f32 0x38D1B717#32 - d (ix1 0) * Ideal.ofBits .f32 0x38D1B717#32) *
        ((2 : ℝ) : EReal) * ((1 / 2 : ℝ) : EReal)) := by
  subst hp hd
  unfold out_main_v194
  pointwise
  simp only [HeadSpec.word_half, HeadSpec.word_two, HeadSpec.half_turn, HeadSpec.halve]

theorem heading_apply : out_main_v194 V (ix1 2) =
    p (ix1 2) + (d (ix1 1) * Ideal.ofBits .f32 0x38D1B717#32 - d (ix1 0) * Ideal.ofBits .f32 0x38D1B717#32) *
      ((2 : ℝ) : EReal) := by
  subst hp hd
  unfold out_main_v194
  pointwise
  simp only [HeadSpec.word_half, HeadSpec.half_turn]

end Pose

end Cert.Proof.RefHead
end
-- ==== Proof.RefValue.lean ====
/-
  What the reference leaves, over the extended reals, of the arguments: the target its host operations make, the
  angles of its loop, and the two results.
-/
module

public import proofs.«01_k».proof.Proof.RefModel
public import proofs.«01_k».proof.Proof.RefConv
public import proofs.«01_k».proof.Proof.RefHead
public import proofs.«01_k».proof.Proof.Spec

@[expose] public section

set_option maxRecDepth 16384

noncomputable section

namespace Cert.Proof.RefValue

open Idealize.ShloMosaic Idealize.ShloMosaic.TcCoe Idealize.ShloMosaic.StableHlo Cert.ReferenceIdeal Cert.ReferenceIdeal.Gen Cert.ReferenceIdeal.Value

variable (m : (ℓ : Loc nD τ sig) → Buf (Elt Ideal) ℓ) (c : Dev nD)

/-- The image, by coordinates. -/
def image (ci : Fin 3) (i j : Fin 64) : EReal := (m ((c.tc : Thread nD τ).loc main_arg0) : FVec Ideal S1x3x64x64 .f32) (ix4 0 ci i j)

/-- The filters, by coordinates. -/
def filters (co : Fin 4) (ci : Fin 3) (dy dx : Fin 4) : EReal :=
  (m ((c.tc : Thread nD τ).loc main_arg4) : FVec Ideal S4x3x4x4 .f32) (ix4 co ci dy dx)

/-- The biases, by coordinates. -/
def biases (co : Fin 4) : EReal := (m ((c.tc : Thread nD τ).loc main_arg5) : FVec Ideal S4 .f32) (ix1 co)

/-- The linear layer's weights, by coordinates. -/
def weights (r : Fin 2) (k : Fin 256) : EReal := (m ((c.tc : Thread nD τ).loc main_arg6) : FVec Ideal S2x256 .f32) (ix2 r k)

/-- The linear layer's biases, by coordinates. -/
def offsets (r : Fin 2) : EReal := (m ((c.tc : Thread nD τ).loc main_arg7) : FVec Ideal S2 .f32) (ix1 r)

/-- The old pose, by coordinates. -/
def start (i : Fin 3) : EReal := (m ((c.tc : Thread nD τ).loc main_arg1) : FVec Ideal S3 .f32) (ix1 i)

/-- The joint angles given. -/
def joints (i : Fin 2) : EReal := (m ((c.tc : Thread nD τ).loc main_arg2) : FVec Ideal S2 .f32) (ix1 i)

/-- The wheels' ticks. -/
def ticks (i : Fin 2) : EReal := (m ((c.tc : Thread nD τ).loc main_arg3) : FVec Ideal S2 .f32) (ix1 i)

/-- A coordinate of the target at the loop's entry. -/
theorem goal_entry (r : Fin 2) : (entryContents preI m c (Proc.devRef .tc main_v110_0) : FVec Ideal S2 .f32) (ix1 r) =
    Spec.goal (image m c) (filters m c) (biases m c) (weights m c) (offsets m c) r := by
  rw [RefModel.entry_target, RefConv.target_apply]
  unfold Spec.goal
  refine congrArg₂ _ (Finset.sum_congr rfl fun k _ => ?_) rfl
  rw [RefConv.features_apply]
  rfl

/-- The loop leaves the target. -/
theorem target_kept (n : ℕ) : (STEP^[n] (entryContents (F := Ideal) preI m c)) (Proc.devRef .tc main_v110_0) =
    entryContents preI m c (Proc.devRef .tc main_v110_0) := by
  induction n with
  | zero => rfl
  | succ n ih => rw [Function.iterate_succ_apply', STEP_main_v110_0, ih]

/-- The angles after `n` trips of the loop. -/
theorem angles_entry (n : ℕ) : RefHead.entry ((STEP^[n] (entryContents preI m c)) (Proc.devRef .tc main_v110_2)) =
    HeadSpec.angles
      (Spec.goal (image m c) (filters m c) (biases m c) (weights m c) (offsets m c) 0,
        Spec.goal (image m c) (filters m c) (biases m c) (weights m c) (offsets m c) 1)
      (joints m c 0, joints m c 1) n := by
  induction n with
  | zero => rw [Function.iterate_zero, id_eq, RefModel.entry_angles]; rfl
  | succ n ih =>
    rw [Function.iterate_succ_apply', STEP_main_v110_2, RefHead.step_entry, ih, target_kept]
    unfold RefHead.entry
    rw [goal_entry, goal_entry]
    rfl

/-- What the reference leaves of the waypoints, of the arguments. -/
theorem waypoints_entry (i : Fin 19) (j : Fin 2) : out_main_v163 (STEP^[9] (entryContents preI m c)) (ix2 i j) =
    Spec.waypoint (HeadSpec.angles
      (Spec.goal (image m c) (filters m c) (biases m c) (weights m c) (offsets m c) 0,
        Spec.goal (image m c) (filters m c) (biases m c) (weights m c) (offsets m c) 1)
      (joints m c 0, joints m c 1) 9) i j := by
  refine (RefHead.waypoints_apply _ _ rfl i j).trans ?_
  rw [angles_entry]
  rfl

/-- What the reference leaves of the pose, of the arguments. -/
theorem pose_entry (i : Fin 3) : out_main_v194 (STEP^[9] (entryContents preI m c)) (ix1 i) =
    Spec.pose (start m c) (ticks m c) i := by
  have hp := iter_main_arg1 (F := Ideal) m c 9
  have hd := iter_main_arg3 (F := Ideal) m c 9
  fin_cases i
  · exact RefHead.poseX_apply _ _ _ hp hd
  · exact RefHead.poseY_apply _ _ _ hp hd
  · exact RefHead.heading_apply _ _ _ hp hd

end Cert.Proof.RefValue
end
end
-- ==== Proof.Algebraic.lean ====
/-
  The kernel and the reference, launched on the same arguments, end with the same waypoints and the same pose: each
  entry of either is the same formula of the arguments' entries.
-/
module

public import proofs.«01_k».proof.Defs
public import proofs.«01_k».proof.Proof.KernelValue
public import proofs.«01_k».proof.Proof.RefValue

@[expose] public section

set_option maxRecDepth 16384

noncomputable section

namespace Cert.Proof

open Idealize.ShloMosaic Idealize.SL.Sem

section
variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- Arguments that agree have the same entries, so both formulas of the waypoints are one. -/
theorem waypoints_agree
    (h0 : m' ((c.tc : Thread ReferenceIdeal.nD ReferenceIdeal.τ).loc ReferenceIdeal.main_arg0) = m ((c.tc : Thread KernelIdeal.nD KernelIdeal.τ).loc KernelIdeal.main_arg0))
    (h2 : m' ((c.tc : Thread ReferenceIdeal.nD ReferenceIdeal.τ).loc ReferenceIdeal.main_arg2) = m ((c.tc : Thread KernelIdeal.nD KernelIdeal.τ).loc KernelIdeal.main_arg2))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7)) :
    ReferenceIdeal.Value.out_main_v163 (ReferenceIdeal.Value.STEP^[9] (StableHlo.entryContents ReferenceIdeal.Value.preI m' c)) =
      KernelIdeal.Gen.W4 m ρ c (Proc.devRef .tc KernelIdeal.main_v3_0) := by
  funext j
  obtain ⟨i, k, rfl⟩ : ∃ (i : Fin 19) (k : Fin 2), j = ix2 i k := ⟨j 0, j 1, eq_ix2 j⟩
  refine (RefValue.waypoints_entry m' c i k).trans (Eq.trans ?_ (KernelValue.waypoints_entry m ρ c i k).symm)
  rw [show RefValue.image m' c = KernelValue.image m c from funext fun _ => funext fun _ => funext fun _ => congrFun h0 _,
    show RefValue.filters m' c = KernelValue.filters m c from
      funext fun _ => funext fun _ => funext fun _ => funext fun _ => congrFun h4 _,
    show RefValue.biases m' c = KernelValue.biases m c from funext fun _ => congrFun h5 _,
    show RefValue.weights m' c = KernelValue.weights m c from funext fun _ => funext fun _ => congrFun h6 _,
    show RefValue.offsets m' c = KernelValue.offsets m c from funext fun _ => congrFun h7 _,
    show RefValue.joints m' c = KernelValue.joints m c from funext fun _ => congrFun h2 _]

/-- The same of the new pose. -/
theorem pose_agree
    (h1 : m' ((c.tc : Thread ReferenceIdeal.nD ReferenceIdeal.τ).loc ReferenceIdeal.main_arg1) = m ((c.tc : Thread KernelIdeal.nD KernelIdeal.τ).loc KernelIdeal.main_arg1))
    (h3 : m' ((c.tc : Thread ReferenceIdeal.nD ReferenceIdeal.τ).loc ReferenceIdeal.main_arg3) = m ((c.tc : Thread KernelIdeal.nD KernelIdeal.τ).loc KernelIdeal.main_arg3)) :
    ReferenceIdeal.Value.out_main_v194 (ReferenceIdeal.Value.STEP^[9] (StableHlo.entryContents ReferenceIdeal.Value.preI m' c)) =
      KernelIdeal.Gen.W4 m ρ c (Proc.devRef .tc KernelIdeal.main_v3_1) := by
  funext j
  obtain ⟨i, rfl⟩ : ∃ i : Fin 3, j = ix1 i := ⟨j 0, eq_ix1 j⟩
  refine (RefValue.pose_entry m' c i).trans (Eq.trans ?_ (KernelValue.pose_entry m ρ c i).symm)
  rw [show RefValue.start m' c = KernelValue.start m c from funext fun _ => congrFun h1 _,
    show RefValue.ticks m' c = KernelValue.ticks m c from funext fun _ => congrFun h3 _]

end

/-- Over the extended reals the kernel and the reference end with the same results. -/
theorem algebraic : Cert.algebraic_KernelIdeal_ReferenceIdeal (hKernelIdeal := KernelIdeal.Gen.facts)
    (hReferenceIdeal := ReferenceIdeal.Gen.facts) := by
  intro m g m' g' _ hargs
  refine ⟨fun c => KernelIdeal.Gen.W4 m g c (Proc.devRef .tc KernelIdeal.main_v3_0),
    fun c => KernelIdeal.Gen.W4 m g c (Proc.devRef .tc KernelIdeal.main_v3_1), KernelRun.results m g,
    (θ_run _ _ _).mono (fun r h c => ?_) (ReferenceIdeal.Value.run m' g')⟩
  obtain ⟨h0, h1, h2, h3, h4, h5, h6, h7⟩ := hargs c
  obtain ⟨r0, r1, rest⟩ := h c
  exact ⟨r0.trans (waypoints_agree m g m' c h0 h2 h4 h5 h6 h7), r1.trans (pose_agree m g m' c h1 h3), rest⟩

end Cert.Proof

end
-- ==== Proof.lean ====
/-
  The certificate: the kernel runs safely at bits and over the extended reals, as does the reference; the idealized
  kernel is the kernel with one constant named; and over the extended reals the two programs end with the same two
  results. The witnesses of the programs' stated facts come first, then the five claims in order.
-/
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
